-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![4, 2048, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 2048]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x512 : Shape := ⟨2, ![2048, 512]⟩
abbrev S3x256x512 : Shape := ⟨3, ![3, 256, 512]⟩
abbrev S3 : Shape := ⟨1, ![3]⟩
abbrev S4 : Shape := ⟨1, ![4]⟩
abbrev S_ : Shape := ⟨0, ![]⟩
abbrev S1 : Shape := ⟨1, ![1]⟩
abbrev S1x256x512 : Shape := ⟨3, ![1, 256, 512]⟩
abbrev S256x512 : Shape := ⟨2, ![256, 512]⟩

abbrev nBuf : Space → Nat
  | .hbm => 2
  | .vmem => 3
  | .smem => 0
  | _ => 0

abbrev bufTy : (tb : Table) → Fin (tcTables nBuf tb) → BufTy
  | .hbm, ⟨0, _⟩ => ⟨S1x2048x2048, .f32⟩
  | .hbm, ⟨1, _⟩ => ⟨S2048x512, .f32⟩
  | .local _ .vmem, ⟨0, _⟩ => ⟨S1x2048x2048, .f32⟩
  | .local _ .vmem, ⟨1, _⟩ => ⟨S2048x512, .f32⟩
  | .local _ .vmem, ⟨2, _⟩ => ⟨S3x256x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v25 : BitVec 32 := Scalar.muli v2 c16_i32_11
  let v26 : BitVec 32 := Scalar.addi c0_i32_12 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v14 : BitVec 32 := Scalar.addi v5 c1_i32_4
  let c4_i32_5 : BitVec 32 := 4#32
  let c0_i32 : BitVec 32 := 0#32
  let v15 : BitVec 1 := Scalar.cmpi .eq c4_i32_5 c0_i32
  let c1_i32_6 : BitVec 32 := 1#32
  let v16 : BitVec 32 := Scalar.select v15 c1_i32_6 c4_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_13 : BitVec 32 := 4#32
  let v27 : BitVec 32 := Scalar.muli v24 c4_i32_13
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v29 : BitVec 32 := Scalar.muli v8 c1_i32_14
  let v30 : BitVec 32 := Scalar.addi v28 v29
  v30.toNat
def k0_dev2 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v42 : BitVec 32 := Scalar.muli v2 c16_i32_23
  let v43 : BitVec 32 := Scalar.addi c0_i32_24 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let v31 : BitVec 32 := Scalar.addi v5 c2_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_25 : BitVec 32 := 4#32
  let v44 : BitVec 32 := Scalar.muli v41 c4_i32_25
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v46 : BitVec 32 := Scalar.muli v8 c1_i32_26
  let v47 : BitVec 32 := Scalar.addi v45 v46
  v47.toNat
def k0_dev3 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v59 : BitVec 32 := Scalar.muli v2 c16_i32_34
  let v60 : BitVec 32 := Scalar.addi c0_i32_35 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v48 : BitVec 32 := Scalar.addi v5 c3_i32
  let c4_i32_27 : BitVec 32 := 4#32
  let c0_i32_28 : BitVec 32 := 0#32
  let v49 : BitVec 1 := Scalar.cmpi .eq c4_i32_27 c0_i32_28
  let c1_i32_29 : BitVec 32 := 1#32
  let v50 : BitVec 32 := Scalar.select v49 c1_i32_29 c4_i32_27
  let v51 : BitVec 32 := Scalar.remsi v48 v50
  let c0_i32_31 : BitVec 32 := 0#32
  let v53 : BitVec 1 := Scalar.cmpi .slt v51 c0_i32_31
  let c0_i32_32 : BitVec 32 := 0#32
  let v54 : BitVec 1 := Scalar.cmpi .slt v50 c0_i32_32
  let v55 : BitVec 1 := Scalar.xori v53 v54
  let c0_i32_30 : BitVec 32 := 0#32
  let v52 : BitVec 1 := Scalar.cmpi .ne v51 c0_i32_30
  let v56 : BitVec 1 := Scalar.andi v55 v52
  let v57 : BitVec 32 := Scalar.addi v51 v50
  let v58 : BitVec 32 := Scalar.select v56 v57 v51
  let c4_i32_36 : BitVec 32 := 4#32
  let v61 : BitVec 32 := Scalar.muli v58 c4_i32_36
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v63 : BitVec 32 := Scalar.muli v8 c1_i32_37
  let v64 : BitVec 32 := Scalar.addi v62 v63
  v64.toNat
def k0_dev4 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v76 : BitVec 32 := Scalar.muli v2 c16_i32_46
  let v77 : BitVec 32 := Scalar.addi c0_i32_47 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v78 : BitVec 32 := Scalar.muli v5 c4_i32_48
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v65 : BitVec 32 := Scalar.addi v8 c1_i32_38
  let c4_i32_39 : BitVec 32 := 4#32
  let c0_i32_40 : BitVec 32 := 0#32
  let v66 : BitVec 1 := Scalar.cmpi .eq c4_i32_39 c0_i32_40
  let c1_i32_41 : BitVec 32 := 1#32
  let v67 : BitVec 32 := Scalar.select v66 c1_i32_41 c4_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_49 : BitVec 32 := 1#32
  let v80 : BitVec 32 := Scalar.muli v75 c1_i32_49
  let v81 : BitVec 32 := Scalar.addi v79 v80
  v81.toNat
def k0_dev5 (d0 : Dev nD) : Nat :=
  let c0_i32_59 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_58 : BitVec 32 := 16#32
  let v93 : BitVec 32 := Scalar.muli v2 c16_i32_58
  let v94 : BitVec 32 := Scalar.addi c0_i32_59 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_60 : BitVec 32 := 4#32
  let v95 : BitVec 32 := Scalar.muli v5 c4_i32_60
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_50 : BitVec 32 := 2#32
  let v82 : BitVec 32 := Scalar.addi v8 c2_i32_50
  let c4_i32_51 : BitVec 32 := 4#32
  let c0_i32_52 : BitVec 32 := 0#32
  let v83 : BitVec 1 := Scalar.cmpi .eq c4_i32_51 c0_i32_52
  let c1_i32_53 : BitVec 32 := 1#32
  let v84 : BitVec 32 := Scalar.select v83 c1_i32_53 c4_i32_51
  let v85 : BitVec 32 := Scalar.remsi v82 v84
  let c0_i32_55 : BitVec 32 := 0#32
  let v87 : BitVec 1 := Scalar.cmpi .slt v85 c0_i32_55
  let c0_i32_56 : BitVec 32 := 0#32
  let v88 : BitVec 1 := Scalar.cmpi .slt v84 c0_i32_56
  let v89 : BitVec 1 := Scalar.xori v87 v88
  let c0_i32_54 : BitVec 32 := 0#32
  let v86 : BitVec 1 := Scalar.cmpi .ne v85 c0_i32_54
  let v90 : BitVec 1 := Scalar.andi v89 v86
  let v91 : BitVec 32 := Scalar.addi v85 v84
  let v92 : BitVec 32 := Scalar.select v90 v91 v85
  let c1_i32_61 : BitVec 32 := 1#32
  let v97 : BitVec 32 := Scalar.muli v92 c1_i32_61
  let v98 : BitVec 32 := Scalar.addi v96 v97
  v98.toNat
def k0_dev6 (d0 : Dev nD) : Nat :=
  let c0_i32_71 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_70 : BitVec 32 := 16#32
  let v110 : BitVec 32 := Scalar.muli v2 c16_i32_70
  let v111 : BitVec 32 := Scalar.addi c0_i32_71 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v112 : BitVec 32 := Scalar.muli v5 c4_i32_72
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_62 : BitVec 32 := 3#32
  let v99 : BitVec 32 := Scalar.addi v8 c3_i32_62
  let c4_i32_63 : BitVec 32 := 4#32
  let c0_i32_64 : BitVec 32 := 0#32
  let v100 : BitVec 1 := Scalar.cmpi .eq c4_i32_63 c0_i32_64
  let c1_i32_65 : BitVec 32 := 1#32
  let v101 : BitVec 32 := Scalar.select v100 c1_i32_65 c4_i32_63
  let v102 : BitVec 32 := Scalar.remsi v99 v101
  let c0_i32_67 : BitVec 32 := 0#32
  let v104 : BitVec 1 := Scalar.cmpi .slt v102 c0_i32_67
  let c0_i32_68 : BitVec 32 := 0#32
  let v105 : BitVec 1 := Scalar.cmpi .slt v101 c0_i32_68
  let v106 : BitVec 1 := Scalar.xori v104 v105
  let c0_i32_66 : BitVec 32 := 0#32
  let v103 : BitVec 1 := Scalar.cmpi .ne v102 c0_i32_66
  let v107 : BitVec 1 := Scalar.andi v106 v103
  let v108 : BitVec 32 := Scalar.addi v102 v101
  let v109 : BitVec 32 := Scalar.select v107 v108 v102
  let c1_i32_73 : BitVec 32 := 1#32
  let v114 : BitVec 32 := Scalar.muli v109 c1_i32_73
  let v115 : BitVec 32 := Scalar.addi v113 v114
  v115.toNat
def k0_dev7 (d0 : Dev nD) : Nat :=
  let c0_i32_76 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_75 : BitVec 32 := 16#32
  let v116 : BitVec 32 := Scalar.muli v9 c16_i32_75
  let v117 : BitVec 32 := Scalar.addi c0_i32_76 v116
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_77 : BitVec 32 := 4#32
  let v118 : BitVec 32 := Scalar.muli v5 c4_i32_77
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v120 : BitVec 32 := Scalar.muli v8 c1_i32_78
  let v121 : BitVec 32 := Scalar.addi v119 v120
  v121.toNat
def k0_off1 (d0 : Dev nD) (c1_i32_79 : BitVec 32) : Fin 3 → Nat :=
  let c0_i32_86 : BitVec 32 := 0#32
  let c4_i32_3 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.muli c4_i32_3 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c256_i32 : BitVec 32 := 256#32
  let v12 : BitVec 32 := Scalar.muli v11 c256_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v122 : BitVec 32 := Scalar.addi v5 c1_i32_79
  let c4_i32_80 : BitVec 32 := 4#32
  let c0_i32_81 : BitVec 32 := 0#32
  let v123 : BitVec 1 := Scalar.cmpi .eq c4_i32_80 c0_i32_81
  let c1_i32_82 : BitVec 32 := 1#32
  let v124 : BitVec 32 := Scalar.select v123 c1_i32_82 c4_i32_80
  let v125 : BitVec 32 := Scalar.remsi v122 v124
  let c0_i32_84 : BitVec 32 := 0#32
  let v127 : BitVec 1 := Scalar.cmpi .slt v125 c0_i32_84
  let c0_i32_85 : BitVec 32 := 0#32
  let v128 : BitVec 1 := Scalar.cmpi .slt v124 c0_i32_85
  let v129 : BitVec 1 := Scalar.xori v127 v128
  let c0_i32_83 : BitVec 32 := 0#32
  let v126 : BitVec 1 := Scalar.cmpi .ne v125 c0_i32_83
  let v130 : BitVec 1 := Scalar.andi v129 v126
  let v131 : BitVec 32 := Scalar.addi v125 v124
  let v132 : BitVec 32 := Scalar.select v130 v131 v125
  let c512_i32 : BitVec 32 := 512#32
  let v133 : BitVec 32 := Scalar.muli v132 c512_i32
  ![0, v12.toNat, v133.toNat]
def k0_dev8 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v134 : BitVec 32 := Scalar.muli v2 c16_i32_90
  let v135 : BitVec 32 := Scalar.addi c0_i32_91 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_79 : BitVec 32 := 1#32
  let v122 : BitVec 32 := Scalar.addi v5 c1_i32_79
  let c4_i32_80 : BitVec 32 := 4#32
  let c0_i32_81 : BitVec 32 := 0#32
  let v123 : BitVec 1 := Scalar.cmpi .eq c4_i32_80 c0_i32_81
  let c1_i32_82 : BitVec 32 := 1#32
  let v124 : BitVec 32 := Scalar.select v123 c1_i32_82 c4_i32_80
  let v125 : BitVec 32 := Scalar.remsi v122 v124
  let c0_i32_84 : BitVec 32 := 0#32
  let v127 : BitVec 1 := Scalar.cmpi .slt v125 c0_i32_84
  let c0_i32_85 : BitVec 32 := 0#32
  let v128 : BitVec 1 := Scalar.cmpi .slt v124 c0_i32_85
  let v129 : BitVec 1 := Scalar.xori v127 v128
  let c0_i32_83 : BitVec 32 := 0#32
  let v126 : BitVec 1 := Scalar.cmpi .ne v125 c0_i32_83
  let v130 : BitVec 1 := Scalar.andi v129 v126
  let v131 : BitVec 32 := Scalar.addi v125 v124
  let v132 : BitVec 32 := Scalar.select v130 v131 v125
  let c4_i32_92 : BitVec 32 := 4#32
  let v136 : BitVec 32 := Scalar.muli v132 c4_i32_92
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v138 : BitVec 32 := Scalar.muli v8 c1_i32_93
  let v139 : BitVec 32 := Scalar.addi v137 v138
  v139.toNat
def k0_dev9 (d0 : Dev nD) : Nat :=
  let c0_i32_109 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_108 : BitVec 32 := 16#32
  let v160 : BitVec 32 := Scalar.muli v2 c16_i32_108
  let v161 : BitVec 32 := Scalar.addi c0_i32_109 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_96 : BitVec 32 := 2#32
  let v148 : BitVec 32 := Scalar.addi v5 c2_i32_96
  let c4_i32_97 : BitVec 32 := 4#32
  let c0_i32_98 : BitVec 32 := 0#32
  let v149 : BitVec 1 := Scalar.cmpi .eq c4_i32_97 c0_i32_98
  let c1_i32_99 : BitVec 32 := 1#32
  let v150 : BitVec 32 := Scalar.select v149 c1_i32_99 c4_i32_97
  let v151 : BitVec 32 := Scalar.remsi v148 v150
  let c0_i32_101 : BitVec 32 := 0#32
  let v153 : BitVec 1 := Scalar.cmpi .slt v151 c0_i32_101
  let c0_i32_102 : BitVec 32 := 0#32
  let v154 : BitVec 1 := Scalar.cmpi .slt v150 c0_i32_102
  let v155 : BitVec 1 := Scalar.xori v153 v154
  let c0_i32_100 : BitVec 32 := 0#32
  let v152 : BitVec 1 := Scalar.cmpi .ne v151 c0_i32_100
  let v156 : BitVec 1 := Scalar.andi v155 v152
  let v157 : BitVec 32 := Scalar.addi v151 v150
  let v158 : BitVec 32 := Scalar.select v156 v157 v151
  let c4_i32_110 : BitVec 32 := 4#32
  let v162 : BitVec 32 := Scalar.muli v158 c4_i32_110
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v164 : BitVec 32 := Scalar.muli v8 c1_i32_111
  let v165 : BitVec 32 := Scalar.addi v163 v164
  v165.toNat
def k0_dev10 (d0 : Dev nD) : Nat :=
  let c0_i32_127 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_126 : BitVec 32 := 16#32
  let v186 : BitVec 32 := Scalar.muli v2 c16_i32_126
  let v187 : BitVec 32 := Scalar.addi c0_i32_127 v186
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_114 : BitVec 32 := 3#32
  let v174 : BitVec 32 := Scalar.addi v5 c3_i32_114
  let c4_i32_115 : BitVec 32 := 4#32
  let c0_i32_116 : BitVec 32 := 0#32
  let v175 : BitVec 1 := Scalar.cmpi .eq c4_i32_115 c0_i32_116
  let c1_i32_117 : BitVec 32 := 1#32
  let v176 : BitVec 32 := Scalar.select v175 c1_i32_117 c4_i32_115
  let v177 : BitVec 32 := Scalar.remsi v174 v176
  let c0_i32_119 : BitVec 32 := 0#32
  let v179 : BitVec 1 := Scalar.cmpi .slt v177 c0_i32_119
  let c0_i32_120 : BitVec 32 := 0#32
  let v180 : BitVec 1 := Scalar.cmpi .slt v176 c0_i32_120
  let v181 : BitVec 1 := Scalar.xori v179 v180
  let c0_i32_118 : BitVec 32 := 0#32
  let v178 : BitVec 1 := Scalar.cmpi .ne v177 c0_i32_118
  let v182 : BitVec 1 := Scalar.andi v181 v178
  let v183 : BitVec 32 := Scalar.addi v177 v176
  let v184 : BitVec 32 := Scalar.select v182 v183 v177
  let c4_i32_128 : BitVec 32 := 4#32
  let v188 : BitVec 32 := Scalar.muli v184 c4_i32_128
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v190 : BitVec 32 := Scalar.muli v8 c1_i32_129
  let v191 : BitVec 32 := Scalar.addi v189 v190
  v191.toNat
def k0_off2 (d0 : Dev nD) : Fin 3 → Nat :=
  let c0 : Index := 0#32
  let c4_i32_3 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.muli c4_i32_3 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c256_i32 : BitVec 32 := 256#32
  let v12 : BitVec 32 := Scalar.muli v11 c256_i32
  let v237 : Index := Scalar.indexCast v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_168 : BitVec 32 := 512#32
  let v236 : BitVec 32 := Scalar.muli v5 c512_i32_168
  let v238 : Index := Scalar.indexCast v236
  ![0, v237.toNat, v238.toNat]
def k0_off3 (d0 : Dev nD) : Fin 2 → Nat :=
  let c4_i32_3 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.muli c4_i32_3 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c256_i32 : BitVec 32 := 256#32
  let v12 : BitVec 32 := Scalar.muli v11 c256_i32
  let v250 : Index := Scalar.indexCast v12
  let c0_176 : Index := 0#32
  ![v250.toNat, 0]
def k0_off4 (d0 : Dev nD) : Fin 2 → Nat :=
  let c4_i32_3 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.muli c4_i32_3 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c256_i32 : BitVec 32 := 256#32
  let v12 : BitVec 32 := Scalar.muli v11 c256_i32
  let c0_i32_190 : BitVec 32 := 0#32
  ![v12.toNat, 0]
def k0_dev11 (d0 : Dev nD) : Nat :=
  let c0_i32_187 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_186 : BitVec 32 := 16#32
  let v263 : BitVec 32 := Scalar.muli v2 c16_i32_186
  let v264 : BitVec 32 := Scalar.addi c0_i32_187 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_188 : BitVec 32 := 4#32
  let v265 : BitVec 32 := Scalar.muli v5 c4_i32_188
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_177 : BitVec 32 := 1#32
  let v252 : BitVec 32 := Scalar.addi v8 c1_i32_177
  let c4_i32_178 : BitVec 32 := 4#32
  let c0_i32_179 : BitVec 32 := 0#32
  let v253 : BitVec 1 := Scalar.cmpi .eq c4_i32_178 c0_i32_179
  let c1_i32_180 : BitVec 32 := 1#32
  let v254 : BitVec 32 := Scalar.select v253 c1_i32_180 c4_i32_178
  let v255 : BitVec 32 := Scalar.remsi v252 v254
  let c0_i32_182 : BitVec 32 := 0#32
  let v257 : BitVec 1 := Scalar.cmpi .slt v255 c0_i32_182
  let c0_i32_183 : BitVec 32 := 0#32
  let v258 : BitVec 1 := Scalar.cmpi .slt v254 c0_i32_183
  let v259 : BitVec 1 := Scalar.xori v257 v258
  let c0_i32_181 : BitVec 32 := 0#32
  let v256 : BitVec 1 := Scalar.cmpi .ne v255 c0_i32_181
  let v260 : BitVec 1 := Scalar.andi v259 v256
  let v261 : BitVec 32 := Scalar.addi v255 v254
  let v262 : BitVec 32 := Scalar.select v260 v261 v255
  let c1_i32_189 : BitVec 32 := 1#32
  let v267 : BitVec 32 := Scalar.muli v262 c1_i32_189
  let v268 : BitVec 32 := Scalar.addi v266 v267
  v268.toNat
def k0_dev12 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v286 : BitVec 32 := Scalar.muli v2 c16_i32_201
  let v287 : BitVec 32 := Scalar.addi c0_i32_202 v286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_203 : BitVec 32 := 4#32
  let v288 : BitVec 32 := Scalar.muli v5 c4_i32_203
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_192 : BitVec 32 := 2#32
  let v275 : BitVec 32 := Scalar.addi v8 c2_i32_192
  let c4_i32_193 : BitVec 32 := 4#32
  let c0_i32_194 : BitVec 32 := 0#32
  let v276 : BitVec 1 := Scalar.cmpi .eq c4_i32_193 c0_i32_194
  let c1_i32_195 : BitVec 32 := 1#32
  let v277 : BitVec 32 := Scalar.select v276 c1_i32_195 c4_i32_193
  let v278 : BitVec 32 := Scalar.remsi v275 v277
  let c0_i32_197 : BitVec 32 := 0#32
  let v280 : BitVec 1 := Scalar.cmpi .slt v278 c0_i32_197
  let c0_i32_198 : BitVec 32 := 0#32
  let v281 : BitVec 1 := Scalar.cmpi .slt v277 c0_i32_198
  let v282 : BitVec 1 := Scalar.xori v280 v281
  let c0_i32_196 : BitVec 32 := 0#32
  let v279 : BitVec 1 := Scalar.cmpi .ne v278 c0_i32_196
  let v283 : BitVec 1 := Scalar.andi v282 v279
  let v284 : BitVec 32 := Scalar.addi v278 v277
  let v285 : BitVec 32 := Scalar.select v283 v284 v278
  let c1_i32_204 : BitVec 32 := 1#32
  let v290 : BitVec 32 := Scalar.muli v285 c1_i32_204
  let v291 : BitVec 32 := Scalar.addi v289 v290
  v291.toNat
def k0_dev13 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v309 : BitVec 32 := Scalar.muli v2 c16_i32_216
  let v310 : BitVec 32 := Scalar.addi c0_i32_217 v309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_218 : BitVec 32 := 4#32
  let v311 : BitVec 32 := Scalar.muli v5 c4_i32_218
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_207 : BitVec 32 := 3#32
  let v298 : BitVec 32 := Scalar.addi v8 c3_i32_207
  let c4_i32_208 : BitVec 32 := 4#32
  let c0_i32_209 : BitVec 32 := 0#32
  let v299 : BitVec 1 := Scalar.cmpi .eq c4_i32_208 c0_i32_209
  let c1_i32_210 : BitVec 32 := 1#32
  let v300 : BitVec 32 := Scalar.select v299 c1_i32_210 c4_i32_208
  let v301 : BitVec 32 := Scalar.remsi v298 v300
  let c0_i32_212 : BitVec 32 := 0#32
  let v303 : BitVec 1 := Scalar.cmpi .slt v301 c0_i32_212
  let c0_i32_213 : BitVec 32 := 0#32
  let v304 : BitVec 1 := Scalar.cmpi .slt v300 c0_i32_213
  let v305 : BitVec 1 := Scalar.xori v303 v304
  let c0_i32_211 : BitVec 32 := 0#32
  let v302 : BitVec 1 := Scalar.cmpi .ne v301 c0_i32_211
  let v306 : BitVec 1 := Scalar.andi v305 v302
  let v307 : BitVec 32 := Scalar.addi v301 v300
  let v308 : BitVec 32 := Scalar.select v306 v307 v301
  let c1_i32_219 : BitVec 32 := 1#32
  let v313 : BitVec 32 := Scalar.muli v308 c1_i32_219
  let v314 : BitVec 32 := Scalar.addi v312 v313
  v314.toNat
def k0_dev14 (d0 : Dev nD) : Nat :=
  let c0_i32_225 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_224 : BitVec 32 := 16#32
  let v321 : BitVec 32 := Scalar.muli v9 c16_i32_224
  let v322 : BitVec 32 := Scalar.addi c0_i32_225 v321
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_226 : BitVec 32 := 4#32
  let v323 : BitVec 32 := Scalar.muli v5 c4_i32_226
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v325 : BitVec 32 := Scalar.muli v8 c1_i32_227
  let v326 : BitVec 32 := Scalar.addi v324 v325
  v326.toNat
def k0_off5 (d0 : Dev nD) (c0_i32_231 : BitVec 32) : Fin 2 → Nat :=
  let c4_i32_238 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v345 : BitVec 32 := Scalar.muli c4_i32_238 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v333 : BitVec 32 := Scalar.addi v8 c1_i32_230
  let v334 : BitVec 32 := Scalar.addi v333 c0_i32_231
  let c4_i32_232 : BitVec 32 := 4#32
  let c0_i32_233 : BitVec 32 := 0#32
  let v335 : BitVec 1 := Scalar.cmpi .eq c4_i32_232 c0_i32_233
  let c1_i32_234 : BitVec 32 := 1#32
  let v336 : BitVec 32 := Scalar.select v335 c1_i32_234 c4_i32_232
  let v337 : BitVec 32 := Scalar.remsi v334 v336
  let c0_i32_236 : BitVec 32 := 0#32
  let v339 : BitVec 1 := Scalar.cmpi .slt v337 c0_i32_236
  let c0_i32_237 : BitVec 32 := 0#32
  let v340 : BitVec 1 := Scalar.cmpi .slt v336 c0_i32_237
  let v341 : BitVec 1 := Scalar.xori v339 v340
  let c0_i32_235 : BitVec 32 := 0#32
  let v338 : BitVec 1 := Scalar.cmpi .ne v337 c0_i32_235
  let v342 : BitVec 1 := Scalar.andi v341 v338
  let v343 : BitVec 32 := Scalar.addi v337 v336
  let v344 : BitVec 32 := Scalar.select v342 v343 v337
  let v346 : BitVec 32 := Scalar.addi v345 v344
  let c256_i32_239 : BitVec 32 := 256#32
  let v347 : BitVec 32 := Scalar.muli v346 c256_i32_239
  let c0_i32_246 : BitVec 32 := 0#32
  ![v347.toNat, 0]
def k0_dev15 (d0 : Dev nD) : Nat :=
  let c0_i32_251 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_250 : BitVec 32 := 16#32
  let v358 : BitVec 32 := Scalar.muli v9 c16_i32_250
  let v359 : BitVec 32 := Scalar.addi c0_i32_251 v358
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_252 : BitVec 32 := 4#32
  let v360 : BitVec 32 := Scalar.muli v5 c4_i32_252
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_253 : BitVec 32 := 1#32
  let v362 : BitVec 32 := Scalar.muli v8 c1_i32_253
  let v363 : BitVec 32 := Scalar.addi v361 v362
  v363.toNat
def k0_dev16 (d0 : Dev nD) : Nat :=
  let c0_i32_277 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_276 : BitVec 32 := 16#32
  let v395 : BitVec 32 := Scalar.muli v9 c16_i32_276
  let v396 : BitVec 32 := Scalar.addi c0_i32_277 v395
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_278 : BitVec 32 := 4#32
  let v397 : BitVec 32 := Scalar.muli v5 c4_i32_278
  let v398 : BitVec 32 := Scalar.addi v396 v397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_279 : BitVec 32 := 1#32
  let v399 : BitVec 32 := Scalar.muli v8 c1_i32_279
  let v400 : BitVec 32 := Scalar.addi v398 v399
  v400.toNat
def k0_dev17 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v432 : BitVec 32 := Scalar.muli v9 c16_i32_302
  let v433 : BitVec 32 := Scalar.addi c0_i32_303 v432
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v434 : BitVec 32 := Scalar.muli v5 c4_i32_304
  let v435 : BitVec 32 := Scalar.addi v433 v434
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v436 : BitVec 32 := Scalar.muli v8 c1_i32_305
  let v437 : BitVec 32 := Scalar.addi v435 v436
  v437.toNat
def k0_off6 (d0 : Dev nD) (c0_i32_308 : BitVec 32) : Fin 2 → Nat :=
  let c4_i32_315 : BitVec 32 := 4#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v455 : BitVec 32 := Scalar.muli c4_i32_315 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v444 : BitVec 32 := Scalar.addi v8 c0_i32_308
  let c4_i32_309 : BitVec 32 := 4#32
  let c0_i32_310 : BitVec 32 := 0#32
  let v445 : BitVec 1 := Scalar.cmpi .eq c4_i32_309 c0_i32_310
  let c1_i32_311 : BitVec 32 := 1#32
  let v446 : BitVec 32 := Scalar.select v445 c1_i32_311 c4_i32_309
  let v447 : BitVec 32 := Scalar.remsi v444 v446
  let c0_i32_313 : BitVec 32 := 0#32
  let v449 : BitVec 1 := Scalar.cmpi .slt v447 c0_i32_313
  let c0_i32_314 : BitVec 32 := 0#32
  let v450 : BitVec 1 := Scalar.cmpi .slt v446 c0_i32_314
  let v451 : BitVec 1 := Scalar.xori v449 v450
  let c0_i32_312 : BitVec 32 := 0#32
  let v448 : BitVec 1 := Scalar.cmpi .ne v447 c0_i32_312
  let v452 : BitVec 1 := Scalar.andi v451 v448
  let v453 : BitVec 32 := Scalar.addi v447 v446
  let v454 : BitVec 32 := Scalar.select v452 v453 v447
  let v456 : BitVec 32 := Scalar.addi v455 v454
  let c256_i32_316 : BitVec 32 := 256#32
  let v457 : BitVec 32 := Scalar.muli v456 c256_i32_316
  let c0_i32_323 : BitVec 32 := 0#32
  ![v457.toNat, 0]
abbrev stage0_0 : Fin 1 → Memref sig .tc .vmem S1x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x2048 : Shape := ⟨3, ![4, 2048, 2048]⟩
abbrev S_ : Shape := ⟨0, ![]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S_, .f32⟩
  | .hbm, ⟨2, _⟩ => ⟨S2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
/-
# The mesh: devices, the tables of payments, the kernel's offsets

Device `16 x + 4 y + z` stands at `(x, y, z)` of the 2 x 4 x 4 mesh. Every payment a device makes goes to a device at
a fixed displacement from it, so one function `sh` describes them all.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.RS

open Cert.KernelIdeal Cert.KernelIdeal.Gen

open Idealize.ShloMosaic
open Idealize.ShloMosaic.TcCoe

/-! ## Displacements -/

/-- The device `a` steps along the first axis, `b` along the second and `e` along the third from `c`. -/
def sh (a b e : ℕ) (c : Dev nD) : Dev nD :=
  ⟨16 * ((c.val / 16 + a) % 2) + 4 * ((c.val / 4 + b) % 4) + (c.val + e) % 4, by show _ < 32; omega⟩

/-- Displacements that add up to whole turns cancel. -/
theorem sh_cancel (a b e a' b' e' : ℕ) (ha : (a + a') % 2 = 0) (hb : (b + b') % 4 = 0) (he : (e + e') % 4 = 0) (c : Dev nD) :
    sh a b e (sh a' b' e' c) = c := by
  have hc : c.val < 32 := c.isLt
  apply Fin.ext; simp only [sh]; omega

/-! ## The payments -/

/-- Step along the first axis of payment `j`: the barrier unit to the peer across it, and the four copies across it. -/
def mvA (j : Fin 27) : ℕ := if j.val = 6 ∨ 23 ≤ j.val then 1 else 0
/-- Step along the second axis of payment `j`: the first three barrier units, and the copies into the scratch slots. -/
def mvB (j : Fin 27) : ℕ := if j.val < 3 then j.val + 1 else if 10 ≤ j.val ∧ j.val < 13 then 13 - j.val else 0
/-- Step along the third axis of payment `j`: the next three barrier units, and the copies of bands along it. -/
def mvE (j : Fin 27) : ℕ := if 3 ≤ j.val ∧ j.val < 6 then j.val - 2 else if 16 ≤ j.val ∧ j.val < 19 then 19 - j.val else 0

/-- Whom device `c` makes payment `j` to; -/
def dst (j : Fin 27) (c : Dev nD) : Dev nD := sh (mvA j) (mvB j) (mvE j) c
/-- and who makes it to `c`. -/
def payer (j : Fin 27) (c : Dev nD) : Dev nD := sh (mvA j) (4 - mvB j) (4 - mvE j) c

theorem mv_even : ∀ j : Fin 27, (mvA j + mvA j) % 2 = 0 ∧ (4 - mvB j + mvB j) % 4 = 0 ∧ (mvB j + (4 - mvB j)) % 4 = 0
    ∧ (4 - mvE j + mvE j) % 4 = 0 ∧ (mvE j + (4 - mvE j)) % 4 = 0 := by decide

theorem payer_dst (j : Fin 27) (c : Dev nD) : payer j (dst j c) = c :=
  sh_cancel _ _ _ _ _ _ (mv_even j).1 (mv_even j).2.1 (mv_even j).2.2.2.1 c
theorem dst_payer (j : Fin 27) (c : Dev nD) : dst j (payer j c) = c :=
  sh_cancel _ _ _ _ _ _ (mv_even j).1 (mv_even j).2.2.1 (mv_even j).2.2.2.2 c

/-- Payment `j` as a permutation of the devices. -/
def toE (j : Fin 27) : Dev nD ≃ Dev nD := ⟨dst j, payer j, payer_dst j, dst_payer j⟩

/-- The cell payment `j` goes to: payments `0 .. 6` the barrier cell, `j ≥ 7` cell `j - 6`; -/
def kOf (j : Fin 27) : Fin 21 := ⟨j.val - 6, by omega⟩
/-- and the duty of that cell it meets. -/
def dOf (j : Fin 27) : Fin 7 := if h : j.val < 7 then ⟨j.val, h⟩ else 0

/-! ## The semaphores -/

abbrev barS : Sem sig := (SemArray.scalar (sig.barrier 0 rfl) : Sems sig S_).sem
/-- The kernel's own DMA semaphores: cell `k + 1`'s is number `k + 2` of the pool. -/
abbrev dsem (k : Fin 20) : DmaSem sig := (⟨k.val + 2, by show _ < 22; omega⟩ : Fin 22)
abbrev osem (k : Fin 20) : SemLoc sig := .dma (dsem k)
/-- The semaphore of cell `k`: the barrier's, then the kernel's own. -/
abbrev csem : Fin 21 → SemLoc sig := Fin.cases (.reg barS) osem
abbrev kcell (ck : Dev nD × Fin 21) : GSem nD τ sig := ((ck.1 : Thread nD τ), csem ck.2)

theorem csem_injective : Function.Injective csem := by decide +kernel

theorem kcell_injective : Function.Injective (kcell : Dev nD × Fin 21 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem tok_injective : ∀ j j' : Fin 27, kOf j = kOf j' → dOf j = dOf j' → j = j' := by decide +kernel

/-! ## The kernel's device chains -/

theorem dev1_eq (c : Dev nD) : (⟨k0_dev1 c, k0_dev1_lt c⟩ : Dev nD) = dst 0 c := by revert c; decide +kernel
theorem dev2_eq (c : Dev nD) : (⟨k0_dev2 c, k0_dev2_lt c⟩ : Dev nD) = dst 1 c := by revert c; decide +kernel
theorem dev3_eq (c : Dev nD) : (⟨k0_dev3 c, k0_dev3_lt c⟩ : Dev nD) = dst 2 c := by revert c; decide +kernel
theorem dev4_eq (c : Dev nD) : (⟨k0_dev4 c, k0_dev4_lt c⟩ : Dev nD) = dst 3 c := by revert c; decide +kernel
theorem dev5_eq (c : Dev nD) : (⟨k0_dev5 c, k0_dev5_lt c⟩ : Dev nD) = dst 4 c := by revert c; decide +kernel
theorem dev6_eq (c : Dev nD) : (⟨k0_dev6 c, k0_dev6_lt c⟩ : Dev nD) = dst 5 c := by revert c; decide +kernel
theorem dev7_eq (c : Dev nD) : (⟨k0_dev7 c, k0_dev7_lt c⟩ : Dev nD) = dst 6 c := by revert c; decide +kernel
theorem dev8_eq (c : Dev nD) : (⟨k0_dev8 c, k0_dev8_lt c⟩ : Dev nD) = dst 12 c := by revert c; decide +kernel
theorem dev9_eq (c : Dev nD) : (⟨k0_dev9 c, k0_dev9_lt c⟩ : Dev nD) = dst 11 c := by revert c; decide +kernel
theorem dev10_eq (c : Dev nD) : (⟨k0_dev10 c, k0_dev10_lt c⟩ : Dev nD) = dst 10 c := by revert c; decide +kernel
theorem dev11_eq (c : Dev nD) : (⟨k0_dev11 c, k0_dev11_lt c⟩ : Dev nD) = dst 18 c := by revert c; decide +kernel
theorem dev12_eq (c : Dev nD) : (⟨k0_dev12 c, k0_dev12_lt c⟩ : Dev nD) = dst 17 c := by revert c; decide +kernel
theorem dev13_eq (c : Dev nD) : (⟨k0_dev13 c, k0_dev13_lt c⟩ : Dev nD) = dst 16 c := by revert c; decide +kernel
theorem dev14_eq (c : Dev nD) : (⟨k0_dev14 c, k0_dev14_lt c⟩ : Dev nD) = dst 23 c := by revert c; decide +kernel
theorem dev15_eq (c : Dev nD) : (⟨k0_dev15 c, k0_dev15_lt c⟩ : Dev nD) = dst 24 c := by revert c; decide +kernel
theorem dev16_eq (c : Dev nD) : (⟨k0_dev16 c, k0_dev16_lt c⟩ : Dev nD) = dst 25 c := by revert c; decide +kernel
theorem dev17_eq (c : Dev nD) : (⟨k0_dev17 c, k0_dev17_lt c⟩ : Dev nD) = dst 26 c := by revert c; decide +kernel

/-! ## Bands and the kernel's offsets -/

/-- The number of the band a step `h` along the first axis and `e` along the third from `c`'s own. -/
def bn (c : Dev nD) (h e : ℕ) : ℕ := 4 * ((c.val / 16 + h) % 2) + (c.val + e) % 4
theorem bn_lt (c : Dev nD) (h e : ℕ) : bn c h e < 8 := by unfold bn; omega
/-- The block of columns `q` steps along the second axis from `c`'s own. -/
def cl (c : Dev nD) (q : ℕ) : ℕ := (c.val / 4 + q) % 4
theorem cl_lt (c : Dev nD) (q : ℕ) : cl c q < 4 := by unfold cl; omega

theorem off1_eq (c : Dev nD) (r : Fin 3) :
    k0_off1 c (BitVec.ofNat 32 (1 + r.val)) = ![0, 256 * bn c 0 0, 512 * cl c (1 + r.val)] := by revert c r; decide +kernel
theorem off2_eq (c : Dev nD) : k0_off2 c = ![0, 256 * bn c 0 0, 512 * cl c 0] := by revert c; decide +kernel
theorem off3_eq (c : Dev nD) : k0_off3 c = ![256 * bn c 0 0, 0] := by revert c; decide +kernel
theorem off4_eq (c : Dev nD) : k0_off4 c = ![256 * bn c 0 0, 0] := by revert c; decide +kernel
theorem off5_eq (c : Dev nD) (r : Fin 3) : k0_off5 c (BitVec.ofNat 32 r.val) = ![256 * bn c 0 (1 + r.val), 0] := by
  revert c r; decide +kernel
theorem off6_eq (c : Dev nD) (r : Fin 4) : k0_off6 c (BitVec.ofNat 32 r.val) = ![256 * bn c 1 r.val, 0] := by
  revert c r; decide +kernel

/-- The band of a displaced device. -/
theorem bn_sh (c : Dev nD) (a b e h e' : ℕ) : bn (sh a b e c) h e' = bn c (a + h) (e + e') := by
  unfold bn sh; simp only []; omega
theorem cl_sh (c : Dev nD) (a b e q : ℕ) : cl (sh a b e c) q = cl c (b + q) := by
  unfold cl sh; simp only []; omega
theorem bn_mod (c : Dev nD) (h e h' e' : ℕ) (hh : h % 2 = h' % 2) (he : e % 4 = e' % 4) : bn c h e = bn c h' e' := by
  unfold bn; omega
theorem bn_inj (c : Dev nD) : ∀ p p' : Fin 2 × Fin 4, bn c p.1.val p.2.val = bn c p'.1.val p'.2.val → p = p' := by
  revert c; decide +kernel
theorem bn_surj (c : Dev nD) : ∀ b : Fin 8, ∃ p : Fin 2 × Fin 4, bn c p.1.val p.2.val = b.val := by
  revert c; decide +kernel

end Cert.RS
-- ==== Proof.Areas.lean ====
/-
# The areas the copies read and write, and what they hold

The result buffer is cut into eight bands of 256 rows, the scratch buffer into its three slots, the staged argument
into blocks of 256 rows by 512 columns. `landed` is what the scratch slots hold once the blocks have arrived and
`total` what the result buffer holds at the end; both are functions of the arguments of all devices.
-/
module

public import proofs.«01_k».proof.Proof.Mesh
public import Idealize.ShloMosaic.Lib.Pipeline.Value

@[expose] public section

set_option maxRecDepth 16384

noncomputable section

namespace Cert.RS

open Cert.KernelIdeal Cert.KernelIdeal.Gen

open Idealize.ShloMosaic
open Idealize.ShloMosaic.TcCoe

variable {F : FTy → Type} [FloatOps F]

abbrev xM : Memref sig .tc .vmem S1x2048x2048 .f32 := Memref.whole cc0_stg0_0
abbrev oM : Memref sig .tc .vmem S2048x512 .f32 := Memref.whole cc0_stg1_0
abbrev rM : Memref sig .tc .vmem S3x256x512 .f32 := Memref.whole cc0_scratch0

/-! ## The areas -/

/-- The elements of band `b` of the result buffer; -/
def bset (b : ℕ) : Finset S2048x512.Idx := Finset.univ.filter fun i => (i (0 : Fin 2)).val / 256 = b
/-- of slot `s` of the scratch buffer; -/
def sset (s : ℕ) : Finset S3x256x512.Idx := Finset.univ.filter fun i => (i (0 : Fin 3)).val = s
/-- of the block at rows `256 k ..` and columns `512 q ..` of the staged argument. -/
def xset (k q : ℕ) : Finset S1x2048x2048.Idx :=
  Finset.univ.filter fun i => (i (1 : Fin 3)).val / 256 = k ∧ (i (2 : Fin 3)).val / 512 = q

theorem mem_bset {b : ℕ} {i : S2048x512.Idx} : i ∈ bset b ↔ (i (0 : Fin 2)).val / 256 = b := by simp [bset]
theorem mem_sset {s : ℕ} {i : S3x256x512.Idx} : i ∈ sset s ↔ (i (0 : Fin 3)).val = s := by simp [sset]
theorem mem_xset {k q : ℕ} {i : S1x2048x2048.Idx} :
    i ∈ xset k q ↔ (i (1 : Fin 3)).val / 256 = k ∧ (i (2 : Fin 3)).val / 512 = q := by simp [xset]

theorem forall_fin2 {P : Fin 2 → Prop} : (∀ a, P a) ↔ P 0 ∧ P 1 := Fin.forall_fin_two
theorem forall_fin3 {P : Fin 3 → Prop} : (∀ a, P a) ↔ P 0 ∧ P 1 ∧ P 2 :=
  ⟨fun h => ⟨h 0, h 1, h 2⟩, fun h a => by obtain ⟨h0, h1, h2⟩ := h; fin_cases a <;> assumption⟩

theorem band_rect {off : Fin 2 → ℕ} (inb) (b : ℕ) (h : off = ![256 * b, 0]) :
    (Rect.unit (s := S2048x512) off S256x512.size inb).set = bset b := by
  subst h
  ext i
  rw [Rect.mem_set_unit, mem_bset]
  refine forall_fin2.trans ?_
  have h1 : (i (1 : Fin 2)).val < 512 := (i (1 : Fin 2)).isLt
  simp only [Matrix.cons_val_zero, Matrix.cons_val_one, Matrix.cons_val_fin_one]
  omega

theorem slot_rect {off : Fin 3 → ℕ} (inb) (s : ℕ) (h : off = ![s, 0, 0]) :
    (Rect.unit (s := S3x256x512) off S1x256x512.size inb).set = sset s := by
  subst h
  ext i
  rw [Rect.mem_set_unit, mem_sset]
  refine forall_fin3.trans ?_
  have h1 : (i (1 : Fin 3)).val < 256 := (i (1 : Fin 3)).isLt
  have h2 : (i (2 : Fin 3)).val < 512 := (i (2 : Fin 3)).isLt
  simp
  omega

theorem block_rect {off : Fin 3 → ℕ} (inb) (k q : ℕ) (h : off = ![0, 256 * k, 512 * q]) :
    (Rect.unit (s := S1x2048x2048) off S1x256x512.size inb).set = xset k q := by
  subst h
  ext i
  rw [Rect.mem_set_unit, mem_xset]
  refine forall_fin3.trans ?_
  have h0 : (i (0 : Fin 3)).val < 1 := (i (0 : Fin 3)).isLt
  simp
  omega

/-! ## The contents -/

variable (m : (ℓ : Loc nD τ sig) → Buf (Elt F) ℓ)

/-- Device `c`'s argument as its kernel finds it staged. -/
def xstg (c : Dev nD) : (cc0_stg0_0 : Ref sig .tc).ty.Contents (Elt F) :=
  (win0_0.blk (0 : Fin 1)).view.read (Elt F) (m ((c : Thread nD τ).loc main_arg0))

/-- The index of row `r` and column `j` of a device's argument. -/
def ix3 (r j : ℕ) : S1x2048x2048.Idx := fun
  | ⟨0, _⟩ => ⟨0, Nat.one_pos⟩
  | ⟨1, _⟩ => ⟨r % 2048, Nat.mod_lt _ (by decide)⟩
  | ⟨2, _⟩ => ⟨j % 2048, Nat.mod_lt _ (by decide)⟩

/-- The element at row `r` and column `j` of device `c`'s argument. -/
def xel (c : Dev nD) (r j : ℕ) : F .f32 := xstg m c (ix3 r j)

/-- What device `c`'s scratch buffer holds when its blocks have arrived: slot `s` the block of columns `c` reduces, in
    `c`'s band, of the device `s + 1` steps along the second axis. -/
def landed (c : Dev nD) : (cc0_scratch0 : Ref sig .tc).ty.Contents (Elt F) := fun i =>
  xel m (sh 0 ((i (0 : Fin 3)).val + 1) 0 c) (256 * bn c 0 0 + (i (1 : Fin 3)).val) (512 * cl c 0 + (i (2 : Fin 3)).val)

/-- The device that reduces row `r` of the block `k` steps along the second axis from `c`. -/
def rowDev (c : Dev nD) (r k : ℕ) : Dev nD :=
  ⟨16 * (r / 1024 % 2) + 4 * ((c.val / 4 + k) % 4) + r / 256 % 4, by show _ < 32; omega⟩

/-- What device `c`'s result buffer holds at the end: at each element the sum over the second axis of the arguments. -/
def total (c : Dev nD) : (cc0_stg1_0 : Ref sig .tc).ty.Contents (Elt F) := fun i =>
  let r := (i (0 : Fin 2)).val
  let j := 512 * cl c 0 + (i (1 : Fin 2)).val
  FloatOps.addf (FloatOps.addf (FloatOps.addf (xel m (rowDev c r 0) r j) (xel m (rowDev c r 1) r j))
    (xel m (rowDev c r 2) r j)) (xel m (rowDev c r 3) r j)

/-- Devices in one plane across the second axis end with the same result. -/
theorem total_sh (c : Dev nD) (a b e : ℕ) (hb : b % 4 = 0) : total m (sh a b e c) = total m c := by
  have h1 (r k : ℕ) : rowDev (sh a b e c) r k = rowDev c r k := by
    apply Fin.ext; simp only [rowDev, sh]; omega
  have h2 : cl (sh a b e c) 0 = cl c 0 := by rw [cl_sh]; unfold cl; omega
  unfold total; simp only [h1, h2]

/-! ## What a copy leaves -/

omit [FloatOps F] in
/-- Writing through a view what was read through it changes nothing on its elements. -/
theorem write_read_same {s : Shape} {e : EltTy} {sp : Space} (v : View sig .tc sp s e) (f g : v.ty.Contents (Elt F))
    (i) (hi : i ∈ v.set) : v.write (Elt F) f (v.read (Elt F) g) Finset.univ i = g i := by
  obtain ⟨x, -, rfl⟩ := Finset.mem_map.mp hi
  rw [View.write_emb_of_mem _ _ (Finset.mem_univ _), View.read_apply, cast_cast, cast_eq]

theorem ix3_ext {i : S1x2048x2048.Idx} {r j : ℕ} (h1 : (i (1 : Fin 3)).val = r) (h2 : (i (2 : Fin 3)).val = j) : i = ix3 r j := by
  have l0 : (i (0 : Fin 3)).val < 1 := (i (0 : Fin 3)).isLt
  have l1 : (i (1 : Fin 3)).val < 2048 := (i (1 : Fin 3)).isLt
  have l2 : (i (2 : Fin 3)).val < 2048 := (i (2 : Fin 3)).isLt
  have e0 : (i (0 : Fin 3)).val = 0 := by omega
  have e1 : (i (1 : Fin 3)).val = r % 2048 := by omega
  have e2 : (i (2 : Fin 3)).val = j % 2048 := by omega
  refine funext fun a => ?_
  match a with
  | ⟨0, _⟩ => exact Fin.ext e0
  | ⟨1, _⟩ => exact Fin.ext e1
  | ⟨2, _⟩ => exact Fin.ext e2

/-- A slot of the scratch buffer, a block of the staged argument and a band of the result buffer as the kernel names
    them. -/
abbrev slotV (off : Fin 3 → ℕ) (inb : ∀ a : Fin S3x256x512.rank, off a + S1x256x512.size a ≤ S3x256x512.size a) :
    Memref sig .tc .vmem S256x512 .f32 :=
  (rM.slice (Rect.unit (s := S3x256x512) off S1x256x512.size inb) (fun _ => rfl)).squeeze S256x512 squeezes_S1x256x512_S256x512
abbrev blockV (off : Fin 3 → ℕ) (inb : ∀ a : Fin S1x2048x2048.rank, off a + S1x256x512.size a ≤ S1x2048x2048.size a) :
    Memref sig .tc .vmem S256x512 .f32 :=
  (xM.slice (Rect.unit (s := S1x2048x2048) off S1x256x512.size inb) (fun _ => rfl)).squeeze S256x512 squeezes_S1x256x512_S256x512
abbrev bandV (off : Fin 2 → ℕ) (inb : ∀ a : Fin S2048x512.rank, off a + S256x512.size a ≤ S2048x512.size a) :
    Memref sig .tc .vmem S256x512 .f32 :=
  oM.slice (Rect.unit (s := S2048x512) off S256x512.size inb) (fun _ => rfl)

theorem slotV_set {off : Fin 3 → ℕ} (inb) (s : ℕ) (ho : off = ![s, 0, 0]) : (slotV off inb).view.set = sset s :=
  (View.set_reshape _ _).trans ((View.set_slice_whole cc0_scratch0 _).trans (slot_rect inb s ho))
theorem blockV_set {off : Fin 3 → ℕ} (inb) (k q : ℕ) (ho : off = ![0, 256 * k, 512 * q]) : (blockV off inb).view.set = xset k q :=
  (View.set_reshape _ _).trans ((View.set_slice_whole cc0_stg0_0 _).trans (block_rect inb k q ho))
theorem bandV_set {off : Fin 2 → ℕ} (inb) (b : ℕ) (ho : off = ![256 * b, 0]) : (bandV off inb).view.set = bset b :=
  (View.set_slice_whole cc0_stg1_0 _).trans (band_rect inb b ho)

theorem cons_of_squeeze (hn : S256x512.numel = S1x256x512.numel) (x : S256x512.Idx) :
    Shape.reshapeEquiv hn x = (Fin.cons ⟨0, Nat.one_pos⟩ x : S1x256x512.Idx) :=
  Shape.reshapeEquiv_cons_one (d := ![256, 512]) hn x

theorem slotV_emb (off : Fin 3 → ℕ) (inb) (x : S256x512.Idx) :
    (((slotV off inb).view.emb x : S3x256x512.Idx) (0 : Fin 3)).val = off 0 ∧
    (((slotV off inb).view.emb x : S3x256x512.Idx) (1 : Fin 3)).val = off 1 + (x (0 : Fin 2)).val ∧
    (((slotV off inb).view.emb x : S3x256x512.Idx) (2 : Fin 3)).val = off 2 + (x (1 : Fin 2)).val := by
  have hx : (slotV off inb).view.emb x
      = (Rect.unit (s := S3x256x512) off S1x256x512.size inb).emb (Shape.reshapeEquiv (s := S1x256x512) (Shape.Squeezes.numel_eq squeezes_S1x256x512_S256x512) x) := rfl
  rw [hx, cons_of_squeeze]
  refine ⟨?_, ?_, ?_⟩
  · exact (Rect.emb_apply _ _ _).trans (by show off 0 + 1 * 0 = _; omega)
  · exact (Rect.emb_apply _ _ _).trans (by show off 1 + 1 * (x (0 : Fin 2)).val = _; omega)
  · exact (Rect.emb_apply _ _ _).trans (by show off 2 + 1 * (x (1 : Fin 2)).val = _; omega)

theorem block_emb (off : Fin 3 → ℕ) (inb) (y : S1x256x512.Idx) (r j : ℕ)
    (hr : off 1 + (y (1 : Fin 3)).val = r) (hj : off 2 + (y (2 : Fin 3)).val = j) :
    (Rect.unit (s := S1x2048x2048) off S1x256x512.size inb).emb y = ix3 r j := by
  refine ix3_ext ?_ ?_
  · exact (Rect.emb_apply _ _ _).trans (by show off 1 + 1 * (y (1 : Fin 3)).val = _; omega)
  · exact (Rect.emb_apply _ _ _).trans (by show off 2 + 1 * (y (2 : Fin 3)).val = _; omega)

theorem blockV_emb (off : Fin 3 → ℕ) (inb) (x : S256x512.Idx) :
    (blockV off inb).view.emb x = ix3 (off 1 + (x (0 : Fin 2)).val) (off 2 + (x (1 : Fin 2)).val) := by
  have hx : (blockV off inb).view.emb x
      = (Rect.unit (s := S1x2048x2048) off S1x256x512.size inb).emb (Shape.reshapeEquiv (s := S1x256x512) (Shape.Squeezes.numel_eq squeezes_S1x256x512_S256x512) x) := rfl
  rw [hx, cons_of_squeeze]
  exact block_emb off inb _ _ _ rfl rfl

/-- The block a device sends lands in the scratch slot of the device it is for as `landed` says. -/
theorem landed_write (p : Dev nD) (s : Fin 3) {off off' : Fin 3 → ℕ} (inb inb')
    (hoff : off = ![s.val, 0, 0]) (hoff' : off' = ![0, 256 * bn p 0 0, 512 * cl p (3 - s.val)])
    (f : (cc0_scratch0 : Ref sig .tc).ty.Contents (Elt F)) (i : S3x256x512.Idx) (hi : i ∈ sset s.val) :
    (slotV off inb).view.write (Elt F) f ((blockV off' inb').view.read (Elt F) (xstg m p)) Finset.univ i
      = landed m (sh 0 (3 - s.val) 0 p) i := by
  rw [← slotV_set inb s.val hoff] at hi
  obtain ⟨x, -, rfl⟩ := Finset.mem_map.mp hi
  rw [View.write_emb_of_mem _ _ (Finset.mem_univ _), View.read_apply, cast_cast, cast_eq, blockV_emb]
  obtain ⟨e0, e1, e2⟩ := slotV_emb off inb x
  have hs := s.isLt
  show xel m p _ _ = xel m _ _ _
  rw [e0, e1, e2, hoff, hoff', bn_sh, cl_sh, sh_cancel 0 _ 0 0 _ 0 rfl _ rfl]
  · simp only [Matrix.cons_val_zero, Matrix.cons_val_one, Matrix.cons_val, Nat.zero_add, Nat.add_zero]
  · show ((s.val + 1) + (3 - s.val)) % 4 = 0
    omega

theorem band_emb (off : Fin 2 → ℕ) (inb) (x : S256x512.Idx) :
    (((oM.access (Rect.unit (s := S2048x512) off S256x512.size inb)).emb x : S2048x512.Idx) (0 : Fin 2)).val = off 0 + (x (0 : Fin 2)).val ∧
    (((oM.access (Rect.unit (s := S2048x512) off S256x512.size inb)).emb x : S2048x512.Idx) (1 : Fin 2)).val = off 1 + (x (1 : Fin 2)).val :=
  ⟨(Rect.emb_apply _ _ _).trans (by show off 0 + 1 * (x (0 : Fin 2)).val = _; omega),
   (Rect.emb_apply _ _ _).trans (by show off 1 + 1 * (x (1 : Fin 2)).val = _; omega)⟩

theorem landed_at (c : Dev nD) (i : S3x256x512.Idx) {s r j : ℕ} (h0 : (i (0 : Fin 3)).val = s) (h1 : (i (1 : Fin 3)).val = r)
    (h2 : (i (2 : Fin 3)).val = j) : landed m c i = xel m (sh 0 (s + 1) 0 c) (256 * bn c 0 0 + r) (512 * cl c 0 + j) := by
  subst h0 h1 h2; rfl

/-- The device's own block as loaded, and a slot as loaded, flattened. -/
theorem cast_own (c : Dev nD) {off : Fin 3 → ℕ} (inb) (hoff : off = ![0, 256 * bn c 0 0, 512 * cl c 0]) (x : S256x512.Idx) :
    shapeCast S256x512 (xM.view.readAt (Elt F) (Rect.unit (s := S1x2048x2048) off S1x256x512.size inb).toLoadRect (xstg m c) : Vec F S1x256x512 .f32)
      shapeCasts_S1x256x512_S256x512 x
      = xel m c (256 * bn c 0 0 + (x (0 : Fin 2)).val) (512 * cl c 0 + (x (1 : Fin 2)).val) := by
  refine (shapeCast_dropUnit_apply (n := 2) ![256, 512] _ _ x).trans ?_
  rw [View.readAt_rect, View.read_apply, cast_eq]
  exact congrArg (xstg m c) (block_emb off inb _ _ _ (by rw [hoff]; rfl) (by rw [hoff]; rfl))

theorem cast_slot (c : Dev nD) (s : ℕ) {off : Fin 3 → ℕ} (inb) (hoff : off = ![s, 0, 0]) (x : S256x512.Idx) :
    shapeCast S256x512 (rM.view.readAt (Elt F) (Rect.unit (s := S3x256x512) off S1x256x512.size inb).toLoadRect (landed m c) : Vec F S1x256x512 .f32)
      shapeCasts_S1x256x512_S256x512 x
      = xel m (sh 0 (s + 1) 0 c) (256 * bn c 0 0 + (x (0 : Fin 2)).val) (512 * cl c 0 + (x (1 : Fin 2)).val) := by
  refine (shapeCast_dropUnit_apply (n := 2) ![256, 512] _ _ x).trans ?_
  rw [View.readAt_rect, View.read_apply, cast_eq]
  refine landed_at m c _ ?_ ?_ ?_
  · exact (Rect.emb_apply _ _ _).trans (by show off 0 + 1 * 0 = _; rw [hoff]; rfl)
  · exact (Rect.emb_apply _ _ _).trans (by show off 1 + 1 * (x (0 : Fin 2)).val = _; rw [hoff]; show 0 + 1 * _ = _; omega)
  · exact (Rect.emb_apply _ _ _).trans (by show off 2 + 1 * (x (1 : Fin 2)).val = _; rw [hoff]; show 0 + 1 * _ = _; omega)

/-- What the kernel stores over its own band is the total. -/
theorem pay_total (c : Dev nD) {off offs0 offs1 offs2 : Fin 3 → ℕ} {offo : Fin 2 → ℕ} (inb inbo inb0 inb1 inb2 : _)
    (hoff : off = ![0, 256 * bn c 0 0, 512 * cl c 0]) (hoffo : offo = ![256 * bn c 0 0, 0])
    (h0 : offs0 = ![0, 0, 0]) (h1 : offs1 = ![1, 0, 0]) (h2 : offs2 = ![2, 0, 0])
    (f : (cc0_stg1_0 : Ref sig .tc).ty.Contents (Elt F)) (i : S2048x512.Idx) (hi : i ∈ bset (bn c 0 0)) :
    (oM.access (Rect.unit (s := S2048x512) offo S256x512.size inbo)).write (Elt F) f
      (k0_pay1 (xM.view.readAt (Elt F) (Rect.unit (s := S1x2048x2048) off S1x256x512.size inb).toLoadRect (xstg m c))
        (rM.view.readAt (Elt F) (Rect.unit (s := S3x256x512) offs0 S1x256x512.size inb0).toLoadRect (landed m c))
        (rM.view.readAt (Elt F) (Rect.unit (s := S3x256x512) offs1 S1x256x512.size inb1).toLoadRect (landed m c))
        (rM.view.readAt (Elt F) (Rect.unit (s := S3x256x512) offs2 S1x256x512.size inb2).toLoadRect (landed m c))) Finset.univ i
      = total m c i := by
  have hset : (oM.access (Rect.unit (s := S2048x512) offo S256x512.size inbo)).set = bset (bn c 0 0) :=
    (View.set_slice_whole cc0_stg1_0 _).trans (band_rect inbo _ hoffo)
  rw [← hset] at hi
  obtain ⟨x, -, rfl⟩ := Finset.mem_map.mp hi
  rw [View.write_emb_of_mem _ _ (Finset.mem_univ _), cast_eq]
  obtain ⟨e0, e1⟩ := band_emb offo inbo x
  have hd (k : ℕ) (hk : k < 4) : rowDev c (256 * bn c 0 0 + (x (0 : Fin 2)).val) k = sh 0 k 0 c := by
    have hx : (x (0 : Fin 2)).val < 256 := (x (0 : Fin 2)).isLt
    have hc : c.val < 32 := c.isLt
    apply Fin.ext; simp only [rowDev, sh, bn]; omega
  have h00 : sh 0 0 0 c = c := by
    have hc : c.val < 32 := c.isLt
    apply Fin.ext; simp only [sh]; omega
  unfold total
  simp only []
  have o0 : offo 0 = 256 * bn c 0 0 := by rw [hoffo]; rfl
  have o1 : offo 1 = 0 := by rw [hoffo]; rfl
  rw [e0, e1, o0, o1, Nat.zero_add]
  rw [hd 0 (by decide), hd 1 (by decide), hd 2 (by decide), hd 3 (by decide), h00]
  show FloatOps.addf (FloatOps.addf (FloatOps.addf (shapeCast S256x512 _ _ x) (shapeCast S256x512 _ _ x)) (shapeCast S256x512 _ _ x)) (shapeCast S256x512 _ _ x) = _
  rw [cast_own m c inb hoff x, cast_slot m c 0 inb0 h0 x, cast_slot m c 1 inb1 h1 x, cast_slot m c 2 inb2 h2 x]

end Cert.RS
-- ==== Proof.Sched.lean ====
/-
# The schedule of the semaphores

Every device has 21 cells of one round each: the barrier semaphore's, with seven units, and one for each of the
kernel's 20 DMA semaphores, with one transfer. `cellPay c k` is what the owner of cell `k` of device `c` has once it
has waited for the round.
-/
module

public import proofs.«01_k».proof.Proof.Areas

@[expose] public section

set_option maxRecDepth 16384

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What is held of the buffers -/

/-- The block of `c`'s argument in its band and the columns `q` steps from its own; -/
def xPt (c : Dev nD) (q : ℕ) : sProp 𝕄 :=
  ((c : Thread nD τ).loc cc0_stg0_0) ↦[xset (bn c 0 0) (cl c q)]{fullShare} xstg m c
/-- slot `s` of `c`'s scratch buffer at contents `f`; -/
def sPt (c : Dev nD) (s : ℕ) (f : (cc0_scratch0 : Ref sig .tc).ty.Contents (Elt F)) : sProp 𝕄 :=
  ((c : Thread nD τ).loc cc0_scratch0) ↦[sset s]{fullShare} f
/-- share `q` of band `b` of `c`'s result buffer at contents `f`. -/
def oPt (c : Dev nD) (q : PosShare TreeShare) (b : ℕ) (f : (cc0_stg1_0 : Ref sig .tc).ty.Contents (Elt F)) : sProp 𝕄 :=
  ((c : Thread nD τ).loc cc0_stg1_0) ↦[bset b]{q} f

/-- The shares a device reads its own band at while it is being copied to four others. -/
abbrev tk (i : ℕ) : PosShare TreeShare := Transfers.shareTokN fullShare i

omit [FloatOps F] in
instance xPt_storable (c : Dev nD) (q : ℕ) : BI.Storable (upEmb : UEmb _ 𝕄) (xPt m c q) := by unfold xPt; infer_instance
omit [FloatOps F] in
instance sPt_storable (c : Dev nD) (s : ℕ) (f) : BI.Storable (upEmb : UEmb _ 𝕄) (sPt (F := F) c s f) := by unfold sPt; infer_instance
omit [FloatOps F] in
instance oPt_storable (c : Dev nD) (q) (b : ℕ) (f) : BI.Storable (upEmb : UEmb _ 𝕄) (oPt (F := F) c q b f) := by unfold oPt; infer_instance

/-! ## The payloads -/

/-- What the barrier unit of payment `j` hands over of its payer `p`: the slot, the band or the four bands of `p`
    that the device it goes to will write. -/
def give (p : Dev nD) (j : ℕ) : sProp 𝕄 :=
  if j < 3 then iprop(∃ f, sPt p j f)
  else if j < 6 then iprop(∃ f, oPt p fullShare (bn p 0 (j - 2)) f)
  else iprop((∃ f, oPt p fullShare (bn p 1 0) f) ∗ (∃ f, oPt p fullShare (bn p 1 1) f)
    ∗ (∃ f, oPt p fullShare (bn p 1 2) f) ∗ (∃ f, oPt p fullShare (bn p 1 3) f))

/-- What the transfer of cell `k` of device `c` hands `c`: the sends what was read, the receives what was written. -/
def dmaPay (c : Dev nD) (k : ℕ) : sProp 𝕄 :=
  if k < 4 then xPt m c k
  else if k < 7 then sPt c (k - 4) (landed m c)
  else if k < 10 then oPt c (tk (k - 7)) (bn c 0 0) (total m c)
  else if k < 13 then oPt c fullShare (bn c 0 (k - 9)) (total m c)
  else if k < 14 then oPt c (tk 3) (bn c 0 0) (total m c)
  else if k < 17 then oPt c fullShare (bn c 0 (k - 13)) (total m c)
  else oPt c fullShare (bn c 1 (k - 17)) (total m c)

instance give_storable (p : Dev nD) (j : ℕ) : BI.Storable (upEmb : UEmb _ 𝕄) (give (F := F) p j) := by
  unfold give; (repeat' split) <;> infer_instance
instance dmaPay_storable (c : Dev nD) (k : ℕ) : BI.Storable (upEmb : UEmb _ 𝕄) (dmaPay m c k) := by
  unfold dmaPay; (repeat' split) <;> infer_instance

/-- The payment index of a barrier duty. -/
abbrev dj (d : Fin 7) : Fin 27 := ⟨d.val, by omega⟩

def semPay (c : Dev nD) (sm : SemLoc sig) (d : Fin 7) : sProp 𝕄 :=
  match sm with
  | .reg _ => give (payer (dj d) c) d.val
  | .dma q => dmaPay m c ((q : Fin 22).val - 1)

instance semPay_storable (c : Dev nD) (sm : SemLoc sig) (d : Fin 7) : BI.Storable (upEmb : UEmb _ 𝕄) (semPay m c sm d) := by
  unfold semPay; split <;> infer_instance

/-- What a transfer of a block credits its semaphores. -/
abbrev N : ℕ := (bandV (fun _ => 0) (by decide)).view.dmaCredit
theorem N_pos : 0 < N := View.dmaCredit_pos _ (by decide)

def semDuties (sm : SemLoc sig) : Finset (Fin 7) :=
  match sm with
  | .reg _ => Finset.univ
  | .dma q => if 2 ≤ (q : Fin 22).val then {0} else ∅

def semAmount (sm : SemLoc sig) : ℕ := match sm with | .reg _ => 1 | .dma _ => N

theorem semAmount_pos (sm : SemLoc sig) : 0 < semAmount sm := by
  unfold semAmount; split
  · exact Nat.one_pos
  · exact N_pos

def Rd : Rounds.Schedule (GSem nD τ sig) (Fin 7) 𝕄 where
  duties g r := if r = 0 ∧ g.1.2 = .tc then semDuties g.2 else ∅
  unitless _ := False
  amount g _ _ := semAmount g.2
  payload g _ d := semPay m g.1.1 g.2 d
  amount_pos g _ _ _ := semAmount_pos g.2

instance Rd_payload_storable (g : GSem nD τ sig) (r : ℕ) (d : Fin 7) : BI.Storable (upEmb : UEmb _ 𝕄) ((Rd m).payload g r d) :=
  semPay_storable m g.1.1 g.2 d

/-! ## The schedule at the cells -/

/-- The units cell `k` waits for; -/
def need (k : Fin 21) : ℕ := if k = 0 then 7 else N
/-- what one payment is; -/
def amt (j : Fin 27) : ℕ := if j.val < 7 then 1 else N
/-- and what the wait yields. -/
def cellPay (c : Dev nD) (k : Fin 21) : sProp 𝕄 :=
  if k = 0 then iprop(give (payer 0 c) 0 ∗ give (payer 1 c) 1 ∗ give (payer 2 c) 2 ∗ give (payer 3 c) 3
    ∗ give (payer 4 c) 4 ∗ give (payer 5 c) 5 ∗ give (payer 6 c) 6)
  else dmaPay m c k.val

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem duties_cell (c : Dev nD) (k : Fin 21) : (Rd m).duties (kcell (c, k)) 0 = if k = 0 then Finset.univ else {0} := by
  show (if 0 = 0 ∧ ((c : Thread nD τ)).2 = .tc then semDuties (csem k) else ∅) = _
  rw [if_pos ⟨rfl, rfl⟩]
  refine Fin.cases rfl (fun i => ?_) k
  show (if 2 ≤ i.val + 2 then ({0} : Finset (Fin 7)) else ∅) = _
  rw [if_pos (by omega), if_neg (Fin.succ_ne_zero i)]

theorem duties_later (g : GSem nD τ sig) : ∀ r, 1 ≤ r → (Rd m).duties g r = ∅ :=
  fun r hr => if_neg fun h => by omega

theorem mem_duties (c : Dev nD) (j : Fin 27) : dOf j ∈ (Rd m).duties (kcell (c, kOf j)) 0 := by
  rw [duties_cell]
  have : ∀ j : Fin 27, dOf j ∈ (if kOf j = 0 then Finset.univ else {0} : Finset (Fin 7)) := by decide
  exact this j

theorem amount_cell (c : Dev nD) (j : Fin 27) (d : Fin 7) : (Rd m).amount (kcell (c, kOf j)) 0 d = amt j := by
  show semAmount (csem (kOf j)) = amt j
  have h : ∀ k : Fin 21, semAmount (csem k) = if k = 0 then 1 else N := fun k => by
    refine Fin.cases rfl (fun i => ?_) k
    exact (if_neg (Fin.succ_ne_zero i)).symm
  rw [h]; unfold amt
  have h' : ∀ j : Fin 27, kOf j = 0 ↔ j.val < 7 := by decide
  simp only [h']

theorem expect_cell (c : Dev nD) (k : Fin 21) : (Rd m).expect (kcell (c, k)) 0 = need k := by
  unfold Schedule.expect Schedule.amountOf
  rw [duties_cell]
  refine Fin.cases ?_ (fun i => ?_) k
  · show ∑ d : Fin 7, 1 = need 0
    rfl
  · rw [if_neg (Fin.succ_ne_zero i), Finset.sum_singleton]
    exact (if_neg (Fin.succ_ne_zero i)).symm

theorem payload_bar (c : Dev nD) (d : Fin 7) : (Rd m).payload (kcell (c, 0)) 0 d = give (payer (dj d) c) d.val := rfl

theorem payload_dma (c : Dev nD) (k : Fin 21) (hk : k ≠ 0) (d : Fin 7) : (Rd m).payload (kcell (c, k)) 0 d = dmaPay m c k.val := by
  revert hk
  refine Fin.cases (fun h => absurd rfl h) (fun i _ => ?_) k
  rfl

theorem rest_cell (c : Dev nD) (k : Fin 21) :
    bigSep ((Rd m).duties (kcell (c, k)) 0 \ ∅) (fun d => (Rd m).payload (kcell (c, k)) 0 d) = cellPay m c k := by
  rw [Finset.sdiff_empty, duties_cell]
  by_cases h : k = 0
  · subst h
    rw [if_pos rfl, bigSep_fin7]
    exact (if_pos rfl).symm
  · rw [if_neg h, bigSep_singleton, payload_dma m c k h]
    exact (if_neg h).symm

/-! ## What a device owes, and the levels -/

/-- What device `c` owes with the payments `l` still to make. -/
def O (l : List (Fin 27)) (c : Dev nD) : CellTallies nD τ sig Unit :=
  l.foldr (fun j O => O + tallyAt (kcell (dst j c, kOf j)) () (amt j)) 0

/-- The payments a device owes from the start, in the order it makes them. -/
def owedAll : List (Fin 27) := [0, 1, 2, 3, 4, 5, 6, 12, 11, 10, 18, 17, 16, 23, 24, 25, 26]

def L (g : GSem nD τ sig) : Finset Unit := if g.1.2 = .tc then {()} else ∅
/-- The levels: the barrier below the receives along the second axis, below those along the third, below those along
    the first; everything a device waits for without owing it to others at the bottom. -/
def lvS (sm : SemLoc sig) : ℕ :=
  match sm with
  | .reg _ => 1
  | .dma q => let v := (q : Fin 22).val
    if v < 5 then 0 else if v < 8 then 2 else if v < 11 then 0 else if v < 14 then 3 else if v < 18 then 0 else 4
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

theorem O_pos {l : List (Fin 27)} {c : Dev nD} {g : GSem nD τ sig} {u : Unit} (h : 0 < O l c g u) :
    ∃ j ∈ l, g = kcell (dst j c, kOf j) := by
  induction l with
  | nil => exact absurd h (Nat.lt_irrefl 0)
  | cons j l ih =>
    by_cases hg : g = kcell (dst j c, kOf j)
    · exact ⟨j, List.mem_cons_self, hg⟩
    · have h' : 0 < O l c g u := by
        have e : O (j :: l) c g u = O l c g u + (tallyAt (kcell (dst j c, kOf j)) () (amt j) : CellTallies nD τ sig Unit) g u := rfl
        rw [e, tallyAt_apply, if_neg (fun h => hg h.1)] at h
        exact h
      obtain ⟨j', hj, e⟩ := ih h'
      exact ⟨j', List.mem_cons_of_mem _ hj, e⟩

theorem mayWait (c : Dev nD) (sm : SemLoc sig) (l : List (Fin 27)) (h : ∀ j ∈ l, lvS sm < lvS (csem (kOf j))) :
    (levAts L lv : sProp 𝕄) ⊢ MayWait (c : Thread nD τ) sm () (O l c) :=
  MayOwe.of_cut (L := L) (lev := lv) (lvS sm) (fun p hp => by rw [Finset.mem_singleton.mp hp, L_tc]; exact Finset.mem_singleton_self _)
    (fun g u hg => by obtain ⟨j, -, rfl⟩ := O_pos hg; rw [L_tc]; exact Finset.mem_singleton_self _)
    (fun p hp => by rw [Finset.mem_singleton.mp hp]; exact le_refl _)
    (fun g u hg => by obtain ⟨j, hj, rfl⟩ := O_pos hg; exact h j hj)

end Cert.RS
-- ==== Proof.Steps.lean ====
/-
# The steps of the body

One lemma for a barrier signal, one for a copy, one for a wait; each for every payment or cell.
-/
module

public import proofs.«01_k».proof.Proof.Sched

@[expose] public section

set_option maxRecDepth 16384

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Fin 21 → ℕ)

/-- Every cell's invariant, and that its first round is reached; -/
def records : sProp 𝕄 :=
  iprop((bigSep Finset.univ fun ck : Dev nD × Fin 21 => cellInv ER (Rd m) (K ck) (kcell ck))
    ∗ bigSep Finset.univ fun ck : Dev nD × Fin 21 => reached ER (kcell ck) 0)
instance records_persistent : BI.Persistent (records m K) := by unfold records; infer_instance

/-- and with the levels, all that every step may use. -/
def ctx : sProp 𝕄 := iprop(records m K ∗ levAts L lv)
instance ctx_persistent : BI.Persistent (ctx m K) := by unfold ctx; infer_instance

theorem ctx_inv (ck : Dev nD × Fin 21) : ctx m K ⊢ cellInv ER (Rd m) (K ck) (kcell ck) := by
  unfold ctx records
  iintro ⟨⟨HI, -⟩, -⟩
  iapply (show (bigSep Finset.univ fun ck : Dev nD × Fin 21 => (cellInv ER (Rd m) (K ck) (kcell ck) : sProp 𝕄)) ⊢ cellInv ER (Rd m) (K ck) (kcell ck)
    from bigSep_elim (Finset.mem_univ ck))
  iexact HI
theorem ctx_reached (ck : Dev nD × Fin 21) : ctx m K ⊢ reached ER (kcell ck) 0 := by
  unfold ctx records
  iintro ⟨⟨-, HR⟩, -⟩
  iapply (show (bigSep Finset.univ fun ck : Dev nD × Fin 21 => (reached ER (kcell ck) 0 : sProp 𝕄)) ⊢ reached ER (kcell ck) 0
    from bigSep_elim (Finset.mem_univ ck))
  iexact HR
theorem ctx_lev : ctx m K ⊢ levAts L lv := by
  unfold ctx; iintro ⟨-, H⟩; iexact H

/-- Device `c` owes the payments `l`. -/
def ow (c : Dev nD) (l : List (Fin 27)) : sProp 𝕄 := iprop(∃ W, owes (c : Thread nD τ) (O l c) W)
/-- The right to make payment `j`. -/
def tok (c : Dev nD) (j : Fin 27) : sProp 𝕄 := dutyTok ER (kcell (dst j c, kOf j)) 0 (dOf j)
/-- Cell `k` of `c` before its wait, what it waits for being on its way; -/
def waiting (c : Dev nD) (k : Fin 21) : sProp 𝕄 :=
  iprop(atPos ER (kcell (c, k)) 0 ∅ 0 ∗ cred (tallyAt (kcell (c, k)) () (need k)))
/-- and afterwards. -/
def done (c : Dev nD) (k : Fin 21) : sProp 𝕄 := semVal (kcell (c, k)) 0
/-- What a copy takes besides the data: the rights to pay its send cell and its receive cell, and the send cell. -/
def kit (c : Dev nD) (js jr : Fin 27) : sProp 𝕄 := iprop(tok c js ∗ tok c jr ∗ atPos ER (kcell (c, kOf js)) 0 ∅ 0)

theorem kOf_zero {j : Fin 27} (hj : j.val < 7) : kOf j = 0 := Fin.ext (by show j.val - 6 = 0; omega)
theorem kOf_ne {j : Fin 27} (hj : 7 ≤ j.val) : kOf j ≠ 0 := fun h => by
  have := congrArg Fin.val h; change j.val - 6 = 0 at this; omega
theorem need_ne {k : Fin 21} (hk : k ≠ 0) : need k = N := if_neg hk

/-- A barrier signal: payment `j < 7`. -/
theorem signalStep (c n : Dev nD) (j : Fin 27) (hj : j.val < 7) (hn : n = dst j c) (l : List (Fin 27)) {k' : ℕ} (hk' : k' = 1)
    {α : Type} {Q : α → sProp 𝕄} {k : PUnit → Prog (TpuEff nD τ sig (Elt F) Λ₀ .tc) α} :
    iprop(ctx m K ∗ tok c j ∗ give c j.val ∗ ow c (j :: l))
      ⊢ iprop((ow c l -∗ wpc c (k ⟨⟩) Q) -∗ wpc c (.op (.semSignal (Dev.tc n : Thread nD τ) barS k') k) Q) := by
  subst hn hk'
  have hk0 := kOf_zero hj
  iintro ⟨#HC, Ht, Hg, Ho⟩ Hk
  unfold ow
  icases Ho with ⟨%W, Ho⟩
  ihave #HI := (ctx_inv m K (dst j c, kOf j)) $$ HC
  ihave #HR := (ctx_reached m K (dst j c, kOf j)) $$ HC
  unfold tok
  have hm := mem_duties m (dst j c) j
  have ha := amount_cell m (dst j c) j (dOf j)
  have hO : O (j :: l) c = O l c + tallyAt (kcell (dst j c, kOf j)) () (amt j) := rfl
  rw [show amt j = 1 from if_pos hj] at ha hO
  have hp : (give c j.val : sProp 𝕄) ⊢ (Rd m).payload ((dst j c : Thread nD τ), .reg barS) 0 (dOf j) := by
    show _ ⊢ (Rd m).payload (kcell (dst j c, 0)) 0 (dOf j)
    rw [payload_bar]
    have hd : dOf j = ⟨j.val, hj⟩ := dif_pos hj
    rw [hd]
    show _ ⊢ give (payer j (dst j c)) j.val
    rw [payer_dst]
  rw [hk0] at hm ha hO ⊢
  iapply (Rounds.wp_signal 𝒱₀ ER (Rd m) (c : Thread nD τ) none (dst := (dst j c : Thread nD τ)) (κ := K (dst j c, 0)) (sem := barS)
    hm ha () (O l c) hO (W := W)) $$ [Ht Hg Ho]
  · isplitr; · iexact HI
    isplitl [Ho]; · iexact Ho
    isplitl [Ht]; · iexact Ht
    isplitl [Hg]; · iapply hp; iexact Hg
    iexact HR
  iintro Ho
  iapply Hk
  iexists W; iexact Ho

/-- A copy: send payment `js` on the device's own cell, receive payment `jr` on the cell of the device it goes to. -/
theorem sendStep (c n : Dev nD) (js jr : Fin 27) (hn : n = dst jr c) (hself : dst js c = c) (hjs : 7 ≤ js.val) (hjr : 7 ≤ jr.val)
    {src dm : Memref sig .tc .vmem S256x512 .f32} {sS sR : SemLoc sig} (hs : sS = csem (kOf js)) (hr : sR = csem (kOf jr))
    {hsc : dm.view.ref.isScScratch = false} {hsrc : src.view.WordExact} {hdst : dm.view.WordExact}
    {hsem : DmaTarget.Typed .vmem sR (.remote (Dev.tc n : Thread nD τ) dm sS hsc)}
    (hN : dm.view.amount sR = N) (q : PosShare TreeShare) (fs : Buf (Elt F) (src.view.loc (c : Thread nD τ)))
    (fd : Buf (Elt F) (dm.view.loc (n : Thread nD τ))) (l : List (Fin 27))
    (hpay₁ : (src.view.loc (c : Thread nD τ) ↦[src.view.set]{q} fs : sProp 𝕄) ⊢ dmaPay m c (kOf js).val)
    (hpay₂ : (dm.view.loc (n : Thread nD τ) ↦[dm.view.set]{fullShare} (dm.view.write (Elt F) fd (src.view.read (Elt F) fs) Finset.univ) : sProp 𝕄)
      ⊢ dmaPay m n (kOf jr).val)
    {α : Type} {Q : α → sProp 𝕄} {k : PUnit → Prog (TpuEff nD τ sig (Elt F) Λ₀ .tc) α} :
    iprop(ctx m K ∗ kit c js jr ∗ (src.view.loc (c : Thread nD τ) ↦[src.view.set]{q} fs) ∗ (dm.view.loc (n : Thread nD τ) ↦[dm.view.set]{fullShare} fd)
        ∗ ow c (jr :: l))
      ⊢ iprop(((waiting c (kOf js) ∗ ow c l) -∗ wpc c (k ⟨⟩) Q)
        -∗ wpc c (.op (.enqueueDma src (.remote (Dev.tc n : Thread nD τ) dm sS hsc) sR hsrc hdst hsem) k) Q) := by
  subst hn hs hr
  iintro ⟨#HC, Hkit, Hs, Hd, Ho⟩ Hk
  unfold ow kit tok
  icases Ho with ⟨%W, Ho⟩
  icases Hkit with ⟨Hts, Htr, Hat⟩
  ihave #HI₁ := (ctx_inv m K (c, kOf js)) $$ HC
  ihave #HR₁ := (ctx_reached m K (c, kOf js)) $$ HC
  ihave #HI₂ := (ctx_inv m K (dst jr c, kOf jr)) $$ HC
  ihave #HR₂ := (ctx_reached m K (dst jr c, kOf jr)) $$ HC
  rw [hself]
  have ha₁ := amount_cell m c js (dOf js)
  have ha₂ := amount_cell m (dst jr c) jr (dOf jr)
  have hO : O (jr :: l) c = O l c + tallyAt (kcell (dst jr c, kOf jr)) () (amt jr) := rfl
  rw [show amt js = N from if_neg (by omega)] at ha₁
  rw [show amt jr = N from if_neg (by omega)] at ha₂ hO
  iapply (Rounds.wp_send_pointsTo 𝒱₀ ER (Rd m) (c : Thread nD τ) none (κ₁ := K (c, kOf js)) (κ₂ := K (dst jr c, kOf jr))
    (r₁ := 0) (r₂ := 0) (d₁ := dOf js) (d₂ := dOf jr) (fs := fs) (fd := fd) (q := q)
    (mem_duties m c js) (mem_duties m (dst jr c) jr) () () N hN ha₁ ha₂ (O l c) hO (W := W)
    (hpay₁.trans (Entails.of_eq (payload_dma m c _ (kOf_ne hjs) _).symm))
    (hpay₂.trans (Entails.of_eq (payload_dma m (dst jr c) _ (kOf_ne hjr) _).symm))) $$ [Hts Htr Hs Hd Ho]
  · isplitr; · iexact HI₁
    isplitr; · iexact HI₂
    isplitl [Hs]; · iexact Hs
    isplitl [Hd]; · iexact Hd
    isplitl [Ho]; · iexact Ho
    isplitl [Hts]; · iexact Hts
    isplitr; · iexact HR₁
    isplitl [Htr]; · iexact Htr
    iexact HR₂
  iintro ⟨Hcr, Ho⟩
  iapply Hk
  isplitl [Hcr Hat]
  · unfold waiting
    isplitl [Hat]; · iexact Hat
    rw [need_ne (kOf_ne hjs)]; iexact Hcr
  iexists W; iexact Ho

/-- A wait for cell `k`, while the payments `l`, all to cells of higher levels, are owed. -/
theorem waitStep (c : Dev nD) (k : Fin 21) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem k) (need k) Kt)
    (l : List (Fin 27)) (hl : ∀ j ∈ l, lvS (csem k) < lvS (csem (kOf j)))
    {α : Type} {Q : α → sProp 𝕄} {kc : PUnit → Prog (TpuEff nD τ sig (Elt F) Λ₀ .tc) α} :
    iprop(ctx m K ∗ waiting c k ∗ ow c l)
      ⊢ iprop(((done c k ∗ cellPay m c k ∗ ow c l) -∗ wpc c (kc ⟨⟩) Q) -∗ wpc c (.op w kc) Q) := by
  iintro ⟨#HC, Hw, Ho⟩ Hk
  unfold ow waiting done
  icases Ho with ⟨%W, Ho⟩
  icases Hw with ⟨Hat, Hcr⟩
  ihave #HI := (ctx_inv m K (c, k)) $$ HC
  ihave #HL := (ctx_lev m K) $$ HC
  iapply (Rounds.wp_wait_rest_token 𝒱₀ ER (Rd m) (c : Thread nD τ) none (κ := K (c, k)) hw (Set.mem_univ _) () (O := O l c) (W := W)
      (R := 0) (m := 0) (T := ∅) (by rw [Nat.zero_add]; exact (expect_cell m c k).symm)) $$ [Hcr Ho Hat]
  · isplitr; · iexact HI
    isplitl [Hcr]; · iexact Hcr
    isplitl [Ho]; · iexact Ho
    isplitr; · iapply (mayWait c (csem k) l hl); iexact HL
    iexact Hat
  iintro ⟨Ho, Hat, -, Hpay⟩
  ihave Hp := (Entails.of_eq (rest_cell m c k)) $$ Hpay
  imod (Rounds.cell_close ER (Rd m) (Set.mem_univ (K (c, k))) (fun h => h) (R := 0 + 1) (duties_later m (kcell (c, k)))) $$ [Hat] with Hz
  · isplitr; · iexact HI
    iexact Hat
  iapply Hk
  isplitl [Hz]; · iexact Hz
  isplitl [Hp]; · iexact Hp
  iexists _; iexact Ho

/-- The wait for a DMA cell. -/
theorem dmaWait (c : Dev nD) (k : Fin 21) (hk : k ≠ 0) {sem : DmaSem sig} (hs : SemLoc.dma sem = csem k)
    {s' : Shape} {e' : EltTy} {sp' : Space} {src : Memref sig .tc sp' s' e'} {dm : Memref sig .tc .vmem S256x512 .f32}
    {hsrc : src.view.WordExact} {hdst : dm.view.WordExact} (hN : dm.view.dmaCredit = N)
    (l : List (Fin 27)) (hl : ∀ j ∈ l, lvS (csem k) < lvS (csem (kOf j)))
    {α : Type} {Q : α → sProp 𝕄} {kc : PUnit → Prog (TpuEff nD τ sig (Elt F) Λ₀ .tc) α} :
    iprop(ctx m K ∗ waiting c k ∗ ow c l)
      ⊢ iprop(((done c k ∗ dmaPay m c k.val ∗ ow c l) -∗ wpc c (kc ⟨⟩) Q) -∗ wpc c (.op (.waitDma2 sem src dm hsrc hdst) kc) Q) := by
  have h := waitStep m K c k (w := .waitDma2 sem src dm hsrc hdst)
    (fun Kt => by rw [need_ne hk, ← hN, ← hs]; exact wpE_waitDma2_eq 𝒱₀ (c : Thread nD τ) none Set.univ Kt) l hl (Q := Q) (kc := kc)
  rw [show cellPay m c k = dmaPay m c k.val from if_neg hk] at h
  exact h

end Cert.RS
-- ==== Proof.Moves.lean ====
/-
# The kernel's copies

The copies of blocks into slots and of bands into bands, each stated once for every slot and every band, and what the
barrier hands over, spelt as the copies want it.
-/
module

public import proofs.«01_k».proof.Proof.Steps

@[expose] public section

set_option maxRecDepth 16384

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores as the program spells them -/

theorem sem1 : SemLoc.dma ((cc0_scratch1.slice (Rect.unit (s := S3) ![0] S1.size inb_S3_S1_0)).squeeze S_ squeezes_S1_S_).sem = csem 1 := rfl
theorem sem2 : SemLoc.dma ((cc0_scratch1.slice (Rect.unit (s := S3) ![1] S1.size inb_S3_S1_1)).squeeze S_ squeezes_S1_S_).sem = csem 2 := rfl
theorem sem3 : SemLoc.dma ((cc0_scratch1.slice (Rect.unit (s := S3) ![2] S1.size inb_S3_S1_2)).squeeze S_ squeezes_S1_S_).sem = csem 3 := rfl
theorem sem4 : SemLoc.dma ((cc0_scratch2.slice (Rect.unit (s := S3) ![0] S1.size inb_S3_S1_0)).squeeze S_ squeezes_S1_S_).sem = csem 4 := rfl
theorem sem5 : SemLoc.dma ((cc0_scratch2.slice (Rect.unit (s := S3) ![1] S1.size inb_S3_S1_1)).squeeze S_ squeezes_S1_S_).sem = csem 5 := rfl
theorem sem6 : SemLoc.dma ((cc0_scratch2.slice (Rect.unit (s := S3) ![2] S1.size inb_S3_S1_2)).squeeze S_ squeezes_S1_S_).sem = csem 6 := rfl
theorem sem7 : SemLoc.dma ((cc0_scratch3.slice (Rect.unit (s := S3) ![0] S1.size inb_S3_S1_0)).squeeze S_ squeezes_S1_S_).sem = csem 7 := rfl
theorem sem8 : SemLoc.dma ((cc0_scratch3.slice (Rect.unit (s := S3) ![1] S1.size inb_S3_S1_1)).squeeze S_ squeezes_S1_S_).sem = csem 8 := rfl
theorem sem9 : SemLoc.dma ((cc0_scratch3.slice (Rect.unit (s := S3) ![2] S1.size inb_S3_S1_2)).squeeze S_ squeezes_S1_S_).sem = csem 9 := rfl
theorem sem10 : SemLoc.dma ((cc0_scratch4.slice (Rect.unit (s := S3) ![0] S1.size inb_S3_S1_0)).squeeze S_ squeezes_S1_S_).sem = csem 10 := rfl
theorem sem11 : SemLoc.dma ((cc0_scratch4.slice (Rect.unit (s := S3) ![1] S1.size inb_S3_S1_1)).squeeze S_ squeezes_S1_S_).sem = csem 11 := rfl
theorem sem12 : SemLoc.dma ((cc0_scratch4.slice (Rect.unit (s := S3) ![2] S1.size inb_S3_S1_2)).squeeze S_ squeezes_S1_S_).sem = csem 12 := rfl
theorem sem13 : SemLoc.dma ((cc0_scratch5.slice (Rect.unit (s := S4) ![0] S1.size inb_S4_S1_0)).squeeze S_ squeezes_S1_S_).sem = csem 13 := rfl
theorem sem14 : SemLoc.dma ((cc0_scratch5.slice (Rect.unit (s := S4) ![1] S1.size inb_S4_S1_1)).squeeze S_ squeezes_S1_S_).sem = csem 14 := rfl
theorem sem15 : SemLoc.dma ((cc0_scratch5.slice (Rect.unit (s := S4) ![2] S1.size inb_S4_S1_2)).squeeze S_ squeezes_S1_S_).sem = csem 15 := rfl
theorem sem16 : SemLoc.dma ((cc0_scratch5.slice (Rect.unit (s := S4) ![3] S1.size inb_S4_S1_3)).squeeze S_ squeezes_S1_S_).sem = csem 16 := rfl
theorem sem17 : SemLoc.dma ((cc0_scratch6.slice (Rect.unit (s := S4) ![0] S1.size inb_S4_S1_0)).squeeze S_ squeezes_S1_S_).sem = csem 17 := rfl
theorem sem18 : SemLoc.dma ((cc0_scratch6.slice (Rect.unit (s := S4) ![1] S1.size inb_S4_S1_1)).squeeze S_ squeezes_S1_S_).sem = csem 18 := rfl
theorem sem19 : SemLoc.dma ((cc0_scratch6.slice (Rect.unit (s := S4) ![2] S1.size inb_S4_S1_2)).squeeze S_ squeezes_S1_S_).sem = csem 19 := rfl
theorem sem20 : SemLoc.dma ((cc0_scratch6.slice (Rect.unit (s := S4) ![3] S1.size inb_S4_S1_3)).squeeze S_ squeezes_S1_S_).sem = csem 20 := rfl

/-! ## Places -/

/-- The send payments go to the device itself. -/
theorem dst_self (j : Fin 27) (hj : 7 ≤ j.val ∧ j.val < 10 ∨ 13 ≤ j.val ∧ j.val < 16 ∨ 19 ≤ j.val ∧ j.val < 23) (c : Dev nD) : dst j c = c := by
  revert j c; decide +kernel

/-- Slot `s` of the device that receive payment `10 + s` goes to, at any contents; -/
def slotFree (c : Dev nD) (jr : Fin 27) (s : ℕ) : sProp 𝕄 := iprop(∃ f, sPt (dst jr c) s f)
/-- and band `b` of the device that payment `jr` goes to. -/
def bandFree (c : Dev nD) (jr : Fin 27) (b : ℕ) : sProp 𝕄 := iprop(∃ f, oPt (dst jr c) fullShare b f)

/-- All that the barrier hands over: the places device `c` will write to on others. -/
def places (c : Dev nD) : sProp 𝕄 :=
  iprop(slotFree c 10 0 ∗ slotFree c 11 1 ∗ slotFree c 12 2
    ∗ bandFree c 16 (bn c 0 0) ∗ bandFree c 17 (bn c 0 0) ∗ bandFree c 18 (bn c 0 0)
    ∗ bandFree c 23 (bn c 0 0) ∗ bandFree c 24 (bn c 0 1) ∗ bandFree c 25 (bn c 0 2) ∗ bandFree c 26 (bn c 0 3))

omit [FloatOps F] in
/-- A band handed over along the third axis is the receiver's own; -/
theorem give_band (c p : Dev nD) (jr : Fin 27) (j : ℕ) (hp : p = dst jr c) (h3 : ¬ j < 3) (h6 : j < 6)
    (hb : bn p 0 (j - 2) = bn c 0 0) : (give p j : sProp 𝕄) = bandFree c jr (bn c 0 0) := by
  unfold give bandFree
  rw [if_neg h3, if_pos h6, hb, hp]

/-- The barrier's payloads are those places. -/
theorem places_of_bar (c : Dev nD) : cellPay m c 0 ⊢ places c := by
  have hp : ∀ c : Dev nD, payer 0 c = dst 10 c ∧ payer 1 c = dst 11 c ∧ payer 2 c = dst 12 c ∧ payer 3 c = dst 16 c ∧ payer 4 c = dst 17 c
      ∧ payer 5 c = dst 18 c ∧ dst 24 c = payer 6 c ∧ dst 25 c = payer 6 c ∧ dst 26 c = payer 6 c ∧ dst 23 c = payer 6 c := by decide +kernel
  have hb : ∀ c : Dev nD, bn (payer 3 c) 0 1 = bn c 0 0 ∧ bn (payer 4 c) 0 2 = bn c 0 0 ∧ bn (payer 5 c) 0 3 = bn c 0 0
      ∧ bn c 0 0 = bn (payer 6 c) 1 0 ∧ bn c 0 1 = bn (payer 6 c) 1 1 ∧ bn c 0 2 = bn (payer 6 c) 1 2 ∧ bn c 0 3 = bn (payer 6 c) 1 3 := by
    decide +kernel
  obtain ⟨p0, p1, p2, p3, p4, p5, p6, p7, p8, p9⟩ := hp c
  obtain ⟨b3, b4, b5, b6, b7, b8, b9⟩ := hb c
  unfold cellPay places
  rw [if_pos rfl, give_band c _ 16 3 p3 (by decide) (by decide) b3, give_band c _ 17 4 p4 (by decide) (by decide) b4,
    give_band c _ 18 5 p5 (by decide) (by decide) b5]
  have e : (give (payer 6 c) 6 : sProp 𝕄) = iprop(bandFree c 23 (bn c 0 0) ∗ bandFree c 24 (bn c 0 1) ∗ bandFree c 25 (bn c 0 2) ∗ bandFree c 26 (bn c 0 3)) := by
    unfold bandFree give
    rw [if_neg (by decide), if_neg (by decide), p6, p7, p8, p9, b6, b7, b8, b9]
  rw [e]
  unfold slotFree
  rw [← p0, ← p1, ← p2]
  exact Entails.refl _

/-! ## The copies -/

variable (K : Dev nD × Fin 21 → ℕ)

omit [FloatOps F] in
theorem slot_pt (c : Dev nD) {off : Fin 3 → ℕ} (inb) (s : ℕ) (ho : off = ![s, 0, 0]) (f : (cc0_scratch0 : Ref sig .tc).ty.Contents (Elt F)) :
    (((slotV off inb).view.loc (c : Thread nD τ) ↦[(slotV off inb).view.set]{fullShare} f) : sProp 𝕄) = sPt c s f :=
  congrArg (fun S : Finset S3x256x512.Idx => (((c : Thread nD τ).loc cc0_scratch0 ↦[S]{fullShare} f) : sProp 𝕄)) (slotV_set inb s ho)
omit [FloatOps F] in
theorem block_pt (c : Dev nD) {off : Fin 3 → ℕ} (inb) (q : ℕ) (ho : off = ![0, 256 * bn c 0 0, 512 * cl c q]) :
    (((blockV off inb).view.loc (c : Thread nD τ) ↦[(blockV off inb).view.set]{fullShare} xstg m c) : sProp 𝕄) = xPt m c q :=
  congrArg (fun S : Finset S1x2048x2048.Idx => (((c : Thread nD τ).loc cc0_stg0_0 ↦[S]{fullShare} xstg m c) : sProp 𝕄)) (blockV_set inb _ _ ho)
omit [FloatOps F] in
theorem band_pt (c : Dev nD) {off : Fin 2 → ℕ} (inb) (q : PosShare TreeShare) (b : ℕ) (ho : off = ![256 * b, 0])
    (f : (cc0_stg1_0 : Ref sig .tc).ty.Contents (Elt F)) :
    (((bandV off inb).view.loc (c : Thread nD τ) ↦[(bandV off inb).view.set]{q} f) : sProp 𝕄) = oPt c q b f :=
  congrArg (fun S : Finset S2048x512.Idx => (((c : Thread nD τ).loc cc0_stg1_0 ↦[S]{q} f) : sProp 𝕄)) (bandV_set inb b ho)

/-- The copy of the device's block `3 - s` columns away into slot `s` of the device there. -/
theorem slotSend (c n : Dev nD) (s : Fin 3) (js jr : Fin 27) (hjs : js.val = 9 - s.val) (hjr : jr.val = 10 + s.val) (hn : n = dst jr c)
    {off off' : Fin 3 → ℕ} {inb inb'} (ho : off = ![s.val, 0, 0]) (ho' : off' = ![0, 256 * bn c 0 0, 512 * cl c (3 - s.val)])
    {sS sR : DmaSem sig} (hs : SemLoc.dma sS = csem (kOf js)) (hr : SemLoc.dma sR = csem (kOf jr))
    {hsc : (slotV off inb).view.ref.isScScratch = false} {hsrc : (blockV off' inb').view.WordExact} {hdst : (slotV off inb).view.WordExact}
    {hsem : DmaTarget.Typed .vmem (.dma sR) (.remote (Dev.tc n : Thread nD τ) (slotV off inb) (.dma sS) hsc)} (l : List (Fin 27))
    {α : Type} {Q : α → sProp 𝕄} {k : PUnit → Prog (TpuEff nD τ sig (Elt F) Λ₀ .tc) α} :
    iprop(ctx m K ∗ kit c js jr ∗ xPt m c (3 - s.val) ∗ slotFree c jr s.val ∗ ow c (jr :: l))
      ⊢ iprop(((waiting c (kOf js) ∗ ow c l) -∗ wpc c (k ⟨⟩) Q)
        -∗ wpc c (.op (.enqueueDma (blockV off' inb') (.remote (Dev.tc n : Thread nD τ) (slotV off inb) (.dma sS) hsc) (.dma sR) hsrc hdst hsem) k) Q) := by
  have hd : dst jr c = sh 0 (3 - s.val) 0 c := by
    unfold dst mvA mvB mvE
    have := s.isLt
    rw [if_neg (by omega), if_neg (by omega), if_pos (by omega), if_neg (by omega), if_neg (by omega)]
    congr 1; omega
  have h₁ : dmaPay m c (kOf js).val = xPt m c (3 - s.val) := by
    unfold dmaPay kOf
    rw [if_pos (by simp only; omega)]; congr 1; simp only; omega
  have h₂ : dmaPay m n (kOf jr).val = sPt n s.val (landed m n) := by
    unfold dmaPay kOf
    rw [if_neg (by simp only; omega), if_pos (by simp only; omega)]; congr 1; simp only; omega
  have e (f) : sPt n s.val ((slotV off inb).view.write (Elt F) f ((blockV off' inb').view.read (Elt F) (xstg m c)) Finset.univ)
      = sPt n s.val (landed m n) := by
    unfold sPt
    refine pointsTo_congr fun i hi => ?_
    rw [landed_write m c s inb inb' ho ho' _ i hi, hn, hd]
  unfold slotFree
  iintro ⟨#HC, Hkit, Hx, ⟨%f, Hd⟩, Ho⟩
  rw [← hn]
  iapply (sendStep m K c n js jr hn (dst_self js (by omega) c) (by omega) (by omega) hs hr
    (src := blockV off' inb') (dm := slotV off inb) rfl fullShare (xstg m c) f l
    (Entails.of_eq ((block_pt m c inb' _ ho').trans h₁.symm))
    ((Entails.of_eq ((slot_pt n inb _ ho _).trans (e f))).trans (Entails.of_eq h₂.symm))) $$ [Hkit Hx Hd Ho]
  · isplitr; · iexact HC
    isplitl [Hkit]; · iexact Hkit
    isplitl [Hx]; · iapply (Entails.of_eq (block_pt m c inb' _ ho').symm); iexact Hx
    isplitl [Hd]; · iapply (Entails.of_eq (slot_pt n inb _ ho f).symm); iexact Hd
    iexact Ho

/-- The copy of band `b`, held at the share `q`, into the same band of another device of the same result. -/
theorem bandSend (c n : Dev nD) (js jr : Fin 27) (hn : n = dst jr c) (hself : 13 ≤ js.val ∧ js.val < 16 ∨ 19 ≤ js.val ∧ js.val < 23)
    (hjr : 16 ≤ jr.val ∧ jr.val < 19 ∨ 23 ≤ jr.val) (q : PosShare TreeShare) (b : ℕ)
    {off : Fin 2 → ℕ} {inb} (ho : off = ![256 * b, 0])
    (h₁ : dmaPay m c (kOf js).val = oPt c q b (total m c)) (h₂ : ∀ p, p = dst jr c → dmaPay m p (kOf jr).val = oPt p fullShare b (total m p))
    {sS sR : DmaSem sig} (hs : SemLoc.dma sS = csem (kOf js)) (hr : SemLoc.dma sR = csem (kOf jr))
    {hsc : (bandV off inb).view.ref.isScScratch = false} {hsrc hdst : (bandV off inb).view.WordExact}
    {hsem : DmaTarget.Typed .vmem (.dma sR) (.remote (Dev.tc n : Thread nD τ) (bandV off inb) (.dma sS) hsc)} (l : List (Fin 27))
    {α : Type} {Q : α → sProp 𝕄} {k : PUnit → Prog (TpuEff nD τ sig (Elt F) Λ₀ .tc) α} :
    iprop(ctx m K ∗ kit c js jr ∗ oPt c q b (total m c) ∗ bandFree c jr b ∗ ow c (jr :: l))
      ⊢ iprop(((waiting c (kOf js) ∗ ow c l) -∗ wpc c (k ⟨⟩) Q)
        -∗ wpc c (.op (.enqueueDma (bandV off inb) (.remote (Dev.tc n : Thread nD τ) (bandV off inb) (.dma sS) hsc) (.dma sR) hsrc hdst hsem) k) Q) := by
  have hB : mvB jr % 4 = 0 := by
    unfold mvB
    rw [if_neg (by omega), if_neg (by omega)]
  have ht : total m n = total m c := by rw [hn]; exact total_sh m c _ _ _ hB
  have e (f) : oPt n fullShare b ((bandV off inb).view.write (Elt F) f ((bandV off inb).view.read (Elt F) (total m c)) Finset.univ)
      = oPt n fullShare b (total m n) := by
    unfold oPt
    refine pointsTo_congr fun i hi => ?_
    rw [← bandV_set inb b ho] at hi
    rw [ht]
    exact write_read_same (bandV off inb).view f (total m c) i hi
  unfold bandFree
  iintro ⟨#HC, Hkit, Hx, ⟨%f, Hd⟩, Ho⟩
  rw [← hn]
  iapply (sendStep m K c n js jr hn (dst_self js (by omega) c) (by omega) (by omega) hs hr
    (src := bandV off inb) (dm := bandV off inb) rfl q (total m c) f l
    (Entails.of_eq ((band_pt c inb q b ho _).trans h₁.symm))
    ((Entails.of_eq ((band_pt n inb fullShare b ho _).trans (e f))).trans
      (Entails.of_eq (h₂ n hn).symm))) $$ [Hkit Hx Hd Ho]
  · isplitr; · iexact HC
    isplitl [Hkit]; · iexact Hkit
    isplitl [Hx]; · iapply (Entails.of_eq (band_pt c inb q b ho _).symm); iexact Hx
    isplitl [Hd]; · iapply (Entails.of_eq (band_pt n inb fullShare b ho f).symm); iexact Hd
    iexact Ho

/-- The first round's copies along the third axis: what their two cells hand over; -/
theorem bz_pay (c : Dev nD) (i : Fin 3) (js jr : Fin 27) (hs : js.val = 13 + i.val) (hr : jr.val = 18 - i.val) :
    dmaPay m c (kOf js).val = oPt c (tk i.val) (bn c 0 0) (total m c)
      ∧ ∀ p, p = dst jr c → dmaPay m p (kOf jr).val = oPt p fullShare (bn c 0 0) (total m p) := by
  have hb : ∀ (c : Dev nD) (jr : Fin 27), 16 ≤ jr.val → jr.val < 19 → bn (dst jr c) 0 (jr.val - 15) = bn c 0 0 := by decide +kernel
  constructor
  · unfold dmaPay kOf
    rw [if_neg (by simp only; omega), if_neg (by simp only; omega), if_pos (by simp only; omega)]
    rw [show js.val - 6 - 7 = i.val by omega]
  · intro p hp
    unfold dmaPay kOf
    rw [if_neg (by simp only; omega), if_neg (by simp only; omega), if_neg (by simp only; omega), if_pos (by simp only; omega)]
    rw [show jr.val - 6 - 9 = jr.val - 15 by omega, ← hb c jr (by omega) (by omega), ← hp]
/-- the copy of the own band along the first axis; -/
theorem bx_pay (c : Dev nD) :
    dmaPay m c (kOf 19).val = oPt c (tk 3) (bn c 0 0) (total m c)
      ∧ ∀ p, p = dst 23 c → dmaPay m p (kOf 23).val = oPt p fullShare (bn c 0 0) (total m p) := by
  have hb : ∀ c : Dev nD, bn (dst 23 c) 1 0 = bn c 0 0 := by decide +kernel
  exact ⟨rfl, fun p hp => by rw [← hb c, ← hp]; rfl⟩
/-- and the copies of the bands that came along the third axis. -/
theorem fw_pay (c : Dev nD) (i : Fin 3) (js jr : Fin 27) (hs : js.val = 20 + i.val) (hr : jr.val = 24 + i.val) :
    dmaPay m c (kOf js).val = oPt c fullShare (bn c 0 (1 + i.val)) (total m c)
      ∧ ∀ p, p = dst jr c → dmaPay m p (kOf jr).val = oPt p fullShare (bn c 0 (1 + i.val)) (total m p) := by
  have hb : ∀ (c : Dev nD) (jr : Fin 27), 24 ≤ jr.val → bn (dst jr c) 1 (jr.val - 23) = bn c 0 (jr.val - 23) := by decide +kernel
  constructor
  · unfold dmaPay kOf
    rw [if_neg (by simp only; omega), if_neg (by simp only; omega), if_neg (by simp only; omega), if_neg (by simp only; omega), if_neg (by simp only; omega),
      if_pos (by simp only; omega)]
    rw [show js.val - 6 - 13 = 1 + i.val by omega]
  · intro p hp
    unfold dmaPay kOf
    rw [if_neg (by simp only; omega), if_neg (by simp only; omega), if_neg (by simp only; omega), if_neg (by simp only; omega), if_neg (by simp only; omega),
      if_neg (by simp only; omega)]
    have h := hb c jr (by omega)
    rw [show jr.val - 23 = 1 + i.val by omega, ← hp] at h
    rw [show jr.val - 6 - 17 = 1 + i.val by omega, h]

end Cert.RS
-- ==== Proof.Body.lean ====
/-
# The body

What a device's core does, part by part of the body, and the body as a whole: from the device's own buffers, the
rights to pay and the cells to wait for, to the finished result.
-/
module

public import proofs.«01_k».proof.Proof.Moves

@[expose] public section

set_option maxRecDepth 16384

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 21 → ℕ)

/-! ## The pieces -/

/-- The payments left after the first `n`. -/
abbrev left (n : ℕ) : List (Fin 27) := owedAll.drop n

/-- What a barrier signal takes: the right to pay and the places handed over. -/
def sg (c : Dev nD) (j : Fin 27) : sProp 𝕄 := iprop(tok c j ∗ give c j.val)

/-- The staged argument without the three blocks that are sent. -/
def xRest (c : Dev nD) : Finset S1x2048x2048.Idx :=
  ((Finset.univ \ xset (bn c 0 0) (cl c 1)) \ xset (bn c 0 0) (cl c 2)) \ xset (bn c 0 0) (cl c 3)
def xR (c : Dev nD) : sProp 𝕄 := ((c : Thread nD τ).loc cc0_stg0_0) ↦[xRest c]{fullShare} xstg m c

/-- A signal from its pieces. -/
theorem sig_run (c n : Dev nD) (j : Fin 27) (hj : j.val < 7) (hn : n = dst j c) (l : List (Fin 27)) {k' : ℕ} (hk' : k' = 1)
    {α : Type} {Q : α → sProp 𝕄} {k : PUnit → Prog (TpuEff nD τ sig (Elt F) Λ₀ .tc) α} :
    iprop(ctx m K ∗ sg c j ∗ ow c (j :: l))
      ⊢ iprop((ow c l -∗ wpc c (k ⟨⟩) Q) -∗ wpc c (.op (.semSignal (Dev.tc n : Thread nD τ) barS k') k) Q) := by
  unfold sg
  iintro ⟨#HC, ⟨Ht, Hg⟩, Ho⟩
  iapply (signalStep m K c n j hj hn l hk') $$ [Ht Hg Ho]
  isplitr; · iexact HC
  isplitl [Ht]; · iexact Ht
  isplitl [Hg]; · iexact Hg
  iexact Ho

/-- Every transfer of a block credits the same. -/
theorem credit_all (dm : Memref sig .tc .vmem S256x512 .f32) : dm.view.dmaCredit = N := rfl

/-- A wait whose payload is known. -/
theorem recv (c : Dev nD) (k : Fin 21) (hk : k ≠ 0) {sem : DmaSem sig} (hs : SemLoc.dma sem = csem k)
    (P : sProp 𝕄) (hP : dmaPay m c k.val = P)
    {s' : Shape} {e' : EltTy} {sp' : Space} {src : Memref sig .tc sp' s' e'} {dm : Memref sig .tc .vmem S256x512 .f32}
    {hsrc : src.view.WordExact} {hdst : dm.view.WordExact}
    (l : List (Fin 27)) (hl : ∀ j ∈ l, lvS (csem k) < lvS (csem (kOf j)))
    {α : Type} {Q : α → sProp 𝕄} {kc : PUnit → Prog (TpuEff nD τ sig (Elt F) Λ₀ .tc) α} :
    iprop(ctx m K ∗ waiting c k ∗ ow c l)
      ⊢ iprop(((done c k ∗ P ∗ ow c l) -∗ wpc c (kc ⟨⟩) Q) -∗ wpc c (.op (.waitDma2 sem src dm hsrc hdst) kc) Q) := by
  subst hP
  exact dmaWait m K c k hk hs (credit_all dm) l hl

/-- The wait at the barrier. -/
theorem bar_run (c : Dev nD) {k' : ℕ} (hk' : k' = 7) (l : List (Fin 27)) (hl : ∀ j ∈ l, lvS (csem 0) < lvS (csem (kOf j)))
    {α : Type} {Q : α → sProp 𝕄} {kc : PUnit → Prog (TpuEff nD τ sig (Elt F) Λ₀ .tc) α} :
    iprop(ctx m K ∗ waiting c 0 ∗ ow c l)
      ⊢ iprop(((done c 0 ∗ places c ∗ ow c l) -∗ wpc c (kc ⟨⟩) Q) -∗ wpc c (.op (.semWait barS k') kc) Q) := by
  subst hk'
  iintro ⟨#HC, Hw, Ho⟩ Hk
  iapply (waitStep m K c 0 (w := .semWait barS 7) (fun Kt => wpE_semWait_eq 𝒱₀ (c : Thread nD τ) none Set.univ Kt) l hl) $$ [Hw Ho]
  · isplitr; · iexact HC
    isplitl [Hw]; · iexact Hw
    iexact Ho
  iintro ⟨Hd, Hp, Ho⟩
  iapply Hk
  isplitl [Hd]; · iexact Hd
  isplitl [Hp]; · iapply (places_of_bar m c); iexact Hp
  iexact Ho

/-! ## The parts -/

/-- The first signal. -/
theorem part1_run (c : Dev nD)  {Q : _ → sProp 𝕄} :
    iprop(ctx m K ∗ sg c 0 ∗ ow c (left 0)
      ∗ (∀ v2 v5 v8 v9 v12 v31 w v32 w', (ow c (left 1)) -∗ Q ⟨c, v2, v5, v8, v9, v12, SemArray.scalar (sig.barrier 0 rfl), v31, w, v32, w'⟩))
      ⊢ wpc c (k0_part1 xM (Memref.isWhole_whole _) oM (Memref.isWhole_whole _) rM (Memref.isWhole_whole _) cc0_scratch1 cc0_scratch2 cc0_scratch3
      cc0_scratch4 cc0_scratch5 cc0_scratch6 ) Q := by
  rw [k0_part1_eq_skeleton]
  unfold k0_part1_skel
  simp only [semSignalWord, semWaitWord, Prog.lift, Prog.bind_op, Prog.bind_ret, Prog.pure_eq_ret, wp_deviceId]
  iintro ⟨#HC, H0, Ho, HQ⟩
  iapply (sig_run m K c _ 0 (by decide) (dev1_eq c) (left 1) rfl) $$ [H0 Ho]
  · isplitr; · iexact HC
    isplitl [H0]; · iexact H0
    iexact Ho
  iintro Ho
  simp only [wp_ret]
  imodintro
  iapply HQ
  iexact Ho

/-- The next two signals; -/
theorem part2_run (c : Dev nD) (v2 v5 v8 v31 w : BitVec 32) (v32 : BitVec 1) (w' : BitVec 32) {Q : _ → sProp 𝕄} :
    iprop(ctx m K ∗ sg c 1 ∗ sg c 2 ∗ ow c (left 1)
      ∗ (∀ r, (ow c (left 3)) -∗ Q r))
      ⊢ wpc c (k0_part2 xM (Memref.isWhole_whole _) oM (Memref.isWhole_whole _) rM (Memref.isWhole_whole _) cc0_scratch1 cc0_scratch2 cc0_scratch3
      cc0_scratch4 cc0_scratch5 cc0_scratch6 c v2 v5 v8 (SemArray.scalar (sig.barrier 0 rfl)) v31 w v32 w') Q := by
  rw [k0_part2_eq_skeleton]
  unfold k0_part2_skel
  simp only [semSignalWord, semWaitWord, Prog.lift, Prog.bind_op, Prog.bind_ret, Prog.pure_eq_ret, wp_deviceId]
  iintro ⟨#HC, H1, H2, Ho, HQ⟩
  iapply (sig_run m K c _ 1 (by decide) (dev2_eq c) (left 2) rfl) $$ [H1 Ho]
  · isplitr; · iexact HC
    isplitl [H1]; · iexact H1
    iexact Ho
  iintro Ho
  iapply (sig_run m K c _ 2 (by decide) (dev3_eq c) (left 3) rfl) $$ [H2 Ho]
  · isplitr; · iexact HC
    isplitl [H2]; · iexact H2
    iexact Ho
  iintro Ho
  simp only [wp_ret]
  imodintro
  iapply HQ
  iexact Ho

/-- two more; -/
theorem part3_run (c : Dev nD) (v2 v5 v8 v31 w : BitVec 32) (v32 : BitVec 1) (w' : BitVec 32) {Q : _ → sProp 𝕄} :
    iprop(ctx m K ∗ sg c 3 ∗ sg c 4 ∗ ow c (left 3)
      ∗ (∀ r, (ow c (left 5)) -∗ Q r))
      ⊢ wpc c (k0_part3 xM (Memref.isWhole_whole _) oM (Memref.isWhole_whole _) rM (Memref.isWhole_whole _) cc0_scratch1 cc0_scratch2 cc0_scratch3
      cc0_scratch4 cc0_scratch5 cc0_scratch6 c v2 v5 v8 (SemArray.scalar (sig.barrier 0 rfl)) v31 w v32 w') Q := by
  rw [k0_part3_eq_skeleton]
  unfold k0_part3_skel
  simp only [semSignalWord, semWaitWord, Prog.lift, Prog.bind_op, Prog.bind_ret, Prog.pure_eq_ret, wp_deviceId]
  iintro ⟨#HC, H1, H2, Ho, HQ⟩
  iapply (sig_run m K c _ 3 (by decide) (dev4_eq c) (left 4) rfl) $$ [H1 Ho]
  · isplitr; · iexact HC
    isplitl [H1]; · iexact H1
    iexact Ho
  iintro Ho
  iapply (sig_run m K c _ 4 (by decide) (dev5_eq c) (left 5) rfl) $$ [H2 Ho]
  · isplitr; · iexact HC
    isplitl [H2]; · iexact H2
    iexact Ho
  iintro Ho
  simp only [wp_ret]
  imodintro
  iapply HQ
  iexact Ho

/-- the last two, and the wait for the seven that come here. -/
theorem part4_run (c : Dev nD) (v2 v5 v8 v9 v31 w : BitVec 32) (v32 : BitVec 1) (w' : BitVec 32) {Q : _ → sProp 𝕄} :
    iprop(ctx m K ∗ sg c 5 ∗ sg c 6 ∗ waiting c 0 ∗ ow c (left 5)
      ∗ (∀ r, (done c 0 ∗ places c ∗ ow c (left 7)) -∗ Q r))
      ⊢ wpc c (k0_part4 xM (Memref.isWhole_whole _) oM (Memref.isWhole_whole _) rM (Memref.isWhole_whole _) cc0_scratch1 cc0_scratch2 cc0_scratch3
      cc0_scratch4 cc0_scratch5 cc0_scratch6 c v2 v5 v8 v9 (SemArray.scalar (sig.barrier 0 rfl)) v31 w v32 w') Q := by
  rw [k0_part4_eq_skeleton]
  unfold k0_part4_skel
  simp only [semSignalWord, semWaitWord, Prog.lift, Prog.bind_op, Prog.bind_ret, Prog.pure_eq_ret, wp_deviceId]
  iintro ⟨#HC, H1, H2, Hw, Ho, HQ⟩
  iapply (sig_run m K c _ 5 (by decide) (dev6_eq c) (left 6) rfl) $$ [H1 Ho]
  · isplitr; · iexact HC
    isplitl [H1]; · iexact H1
    iexact Ho
  iintro Ho
  iapply (sig_run m K c _ 6 (by decide) (dev7_eq c) (left 7) rfl) $$ [H2 Ho]
  · isplitr; · iexact HC
    isplitl [H2]; · iexact H2
    iexact Ho
  iintro Ho
  iapply (bar_run m K c rfl (left 7) (by decide)) $$ [Hw Ho]
  · isplitr; · iexact HC
    isplitl [Hw]; · iexact Hw
    iexact Ho
  iintro ⟨Hd, Hp, Ho⟩
  simp only [wp_ret]
  imodintro
  iapply HQ
  isplitl [Hd]; · iexact Hd
  isplitl [Hp]; · iexact Hp
  iexact Ho

/-- The first copy of a block; -/
theorem part5_run (c : Dev nD) (v2 v5 v8 v132 : BitVec 32) {Q : _ → sProp 𝕄} :
    iprop(ctx m K ∗ kit c 7 12 ∗ xPt m c 1 ∗ slotFree c 12 2 ∗ ow c (left 7)
      ∗ (∀ r, (waiting c 1 ∗ ow c (left 8)) -∗ Q r))
      ⊢ wpc c (k0_part5 xM (Memref.isWhole_whole _) oM (Memref.isWhole_whole _) rM (Memref.isWhole_whole _) cc0_scratch1 cc0_scratch2 cc0_scratch3
      cc0_scratch4 cc0_scratch5 cc0_scratch6 c v2 v5 v8 v132) Q := by
  rw [k0_part5_eq_skeleton]
  unfold k0_part5_skel
  simp only [semSignalWord, semWaitWord, Prog.lift, Prog.bind_op, Prog.bind_ret, Prog.pure_eq_ret, wp_deviceId]
  iintro ⟨#HC, Hk, Hx, Hf, Ho, HQ⟩
  iapply (slotSend m K c _ 2 7 12 rfl rfl (dev8_eq c) rfl (off1_eq c 0) sem1 sem6 (left 8)) $$ [Hk Hx Hf Ho]
  · isplitr; · iexact HC
    isplitl [Hk]; · iexact Hk
    isplitl [Hx]; · iexact Hx
    isplitl [Hf]; · iexact Hf
    iexact Ho
  iintro ⟨Hw, Ho⟩
  simp only [wp_ret]
  imodintro
  iapply HQ
  isplitl [Hw]; · iexact Hw
  iexact Ho

/-- the two others. -/
theorem part6_run (c : Dev nD) (v2 v5 v8 : BitVec 32) {Q : _ → sProp 𝕄} :
    iprop(ctx m K ∗ kit c 8 11 ∗ xPt m c 2 ∗ slotFree c 11 1 ∗ kit c 9 10 ∗ xPt m c 3 ∗ slotFree c 10 0 ∗ ow c (left 8)
      ∗ (∀ r, (waiting c 2 ∗ waiting c 3 ∗ ow c (left 10)) -∗ Q r))
      ⊢ wpc c (k0_part6 xM (Memref.isWhole_whole _) oM (Memref.isWhole_whole _) rM (Memref.isWhole_whole _) cc0_scratch1 cc0_scratch2 cc0_scratch3
      cc0_scratch4 cc0_scratch5 cc0_scratch6 c v2 v5 v8) Q := by
  rw [k0_part6_eq_skeleton]
  unfold k0_part6_skel
  simp only [semSignalWord, semWaitWord, Prog.lift, Prog.bind_op, Prog.bind_ret, Prog.pure_eq_ret, wp_deviceId]
  iintro ⟨#HC, Hk, Hx, Hf, Hk', Hx', Hf', Ho, HQ⟩
  iapply (slotSend m K c _ 1 8 11 rfl rfl (dev9_eq c) rfl (off1_eq c 1) sem2 sem5 (left 9)) $$ [Hk Hx Hf Ho]
  · isplitr; · iexact HC
    isplitl [Hk]; · iexact Hk
    isplitl [Hx]; · iexact Hx
    isplitl [Hf]; · iexact Hf
    iexact Ho
  iintro ⟨Hw, Ho⟩
  iapply (slotSend m K c _ 0 9 10 rfl rfl (dev10_eq c) rfl (off1_eq c 2) sem3 sem4 (left 10)) $$ [Hk' Hx' Hf' Ho]
  · isplitr; · iexact HC
    isplitl [Hk']; · iexact Hk'
    isplitl [Hx']; · iexact Hx'
    isplitl [Hf']; · iexact Hf'
    iexact Ho
  iintro ⟨Hw', Ho⟩
  simp only [wp_ret]
  imodintro
  iapply HQ
  isplitl [Hw]; · iexact Hw
  isplitl [Hw']; · iexact Hw'
  iexact Ho

/-- Two blocks arrive. -/
theorem part7_run (c : Dev nD) (v2 v5 v8 v200 : BitVec 32) {Q : _ → sProp 𝕄} :
    iprop(ctx m K ∗ waiting c 4 ∗ waiting c 5 ∗ ow c (left 10)
      ∗ (∀ r, (done c 4 ∗ sPt c 0 (landed m c) ∗ done c 5 ∗ sPt c 1 (landed m c) ∗ ow c (left 10)) -∗ Q r))
      ⊢ wpc c (k0_part7 xM (Memref.isWhole_whole _) oM (Memref.isWhole_whole _) rM (Memref.isWhole_whole _) cc0_scratch1 cc0_scratch2 cc0_scratch3
      cc0_scratch4 cc0_scratch5 cc0_scratch6 v2 v5 v8 v200) Q := by
  rw [k0_part7_eq_skeleton]
  unfold k0_part7_skel
  simp only [semSignalWord, semWaitWord, Prog.lift, Prog.bind_op, Prog.bind_ret, Prog.pure_eq_ret, wp_deviceId]
  iintro ⟨#HC, H4, H5, Ho, HQ⟩
  iapply (recv m K c 4 (by decide) sem4 (sPt c 0 (landed m c)) rfl (left 10) (by decide)) $$ [H4 Ho]
  · isplitr; · iexact HC
    isplitl [H4]; · iexact H4
    iexact Ho
  iintro ⟨D4, P4, Ho⟩
  iapply (recv m K c 5 (by decide) sem5 (sPt c 1 (landed m c)) rfl (left 10) (by decide)) $$ [H5 Ho]
  · isplitr; · iexact HC
    isplitl [H5]; · iexact H5
    iexact Ho
  iintro ⟨D5, P5, Ho⟩
  simp only [wp_ret]
  imodintro
  iapply HQ
  isplitl [D4]; · iexact D4
  isplitl [P4]; · iexact P4
  isplitl [D5]; · iexact D5
  isplitl [P5]; · iexact P5
  iexact Ho

/-- A whole buffer's part is its part. -/
theorem whole_on (b : Ref sig .tc) (M : Finset b.ty.Idx) : (View.whole b).setOn M = M := by
  ext i
  exact ⟨fun h => by obtain ⟨x, hx, rfl⟩ := Finset.mem_map.mp h; exact hx, fun h => Finset.mem_map.mpr ⟨i, h, rfl⟩⟩
/-- The areas the part that adds reads and writes. -/
theorem own_load (c : Dev nD) : xM.view.setOn (Rect.unit (s := S1x2048x2048) (k0_off2 c) S1x256x512.size (k0_off2_inb c)).toLoadRect.set ⊆ xRest c := by
  have h : (xM.view.setOn (Rect.unit (s := S1x2048x2048) (k0_off2 c) S1x256x512.size (k0_off2_inb c)).toLoadRect.set) = xset (bn c 0 0) (cl c 0) :=
    (whole_on cc0_stg0_0 _).trans (block_rect _ _ _ (off2_eq c))
  rw [h]
  intro i hi
  unfold xRest
  have e1 : cl c 1 ≠ cl c 0 := by unfold cl; omega
  have e2 : cl c 2 ≠ cl c 0 := by unfold cl; omega
  have e3 : cl c 3 ≠ cl c 0 := by unfold cl; omega
  have hi := (mem_xset.mp hi).2
  exact Finset.mem_sdiff.mpr ⟨Finset.mem_sdiff.mpr ⟨Finset.mem_sdiff.mpr ⟨Finset.mem_univ _, fun h => e1 ((mem_xset.mp h).2.symm.trans hi)⟩,
    fun h => e2 ((mem_xset.mp h).2.symm.trans hi)⟩, fun h => e3 ((mem_xset.mp h).2.symm.trans hi)⟩
theorem slot_load {off : Fin 3 → ℕ} (inb) (s : ℕ) (ho : off = ![s, 0, 0]) :
    rM.view.setOn (Rect.unit (s := S3x256x512) off S1x256x512.size inb).toLoadRect.set ⊆ sset s :=
  ((whole_on cc0_scratch0 _).trans (slot_rect inb s ho)).subset
theorem band_load {off : Fin 2 → ℕ} (inb) (b : ℕ) (ho : off = ![256 * b, 0]) :
    oM.view.setOn (Rect.unit (s := S2048x512) off S256x512.size inb).toLoadRect.set ⊆ bset b :=
  ((whole_on cc0_stg1_0 _).trans (band_rect inb b ho)).subset
theorem band_store {off : Fin 2 → ℕ} (inb) (b : ℕ) (ho : off = ![256 * b, 0]) :
    (oM.access (Rect.unit (s := S2048x512) off S256x512.size inb)).setOn Finset.univ ⊆ bset b :=
  ((View.set_slice_whole cc0_stg1_0 _).trans (band_rect inb b ho)).subset

/-- The last block arrives and the band of the result is added up. -/
theorem part8_run (c : Dev nD) (v2 v5 v8 v12 : BitVec 32) {Q : _ → sProp 𝕄} :
    iprop(ctx m K ∗ waiting c 6 ∗ xR m c ∗ sPt c 0 (landed m c) ∗ sPt c 1 (landed m c) ∗ (∃ f, oPt c fullShare (bn c 0 0) f) ∗ ow c (left 10)
      ∗ (∀ r, (done c 6 ∗ xR m c ∗ sPt c 0 (landed m c) ∗ sPt c 1 (landed m c) ∗ sPt c 2 (landed m c) ∗ oPt c fullShare (bn c 0 0) (total m c) ∗ ow c (left 10)) -∗ Q r))
      ⊢ wpc c (k0_part8 xM (Memref.isWhole_whole _) oM (Memref.isWhole_whole _) rM (Memref.isWhole_whole _) cc0_scratch1 cc0_scratch2 cc0_scratch3
      cc0_scratch4 cc0_scratch5 cc0_scratch6 c v2 v5 v8 v12) Q := by
  rw [k0_part8_eq_skeleton]
  unfold k0_part8_skel
  simp only [semSignalWord, semWaitWord, Prog.lift, Prog.bind_op, Prog.bind_ret, Prog.pure_eq_ret, wp_deviceId]
  iintro ⟨#HC, Hw, Hx, Hs0, Hs1, Hb, Ho, HQ⟩
  iapply (recv m K c 6 (by decide) sem6 (sPt c 2 (landed m c)) rfl (left 10) (by decide)) $$ [Hw Ho]
  · isplitr; · iexact HC
    isplitl [Hw]; · iexact Hw
    iexact Ho
  iintro ⟨Hd, Hs2, Ho⟩
  unfold xR sPt oPt
  iapply (wp_load 𝒱₀ (c : Thread nD τ) none Set.univ (m := xM) (S := xRest c) (own_load c)) $$ [Hx]; · iexact Hx
  iintro Hx
  iapply (wp_load 𝒱₀ (c : Thread nD τ) none Set.univ (m := rM) (S := sset 0) (slot_load _ 0 rfl)) $$ [Hs0]; · iexact Hs0
  iintro Hs0
  iapply (wp_load 𝒱₀ (c : Thread nD τ) none Set.univ (m := rM) (S := sset 1) (slot_load _ 1 rfl)) $$ [Hs1]; · iexact Hs1
  iintro Hs1
  iapply (wp_load 𝒱₀ (c : Thread nD τ) none Set.univ (m := rM) (S := sset 2) (slot_load _ 2 rfl)) $$ [Hs2]; · iexact Hs2
  iintro Hs2
  icases Hb with ⟨%f, Hb⟩
  iapply (wp_load 𝒱₀ (c : Thread nD τ) none Set.univ (m := oM) (S := bset (bn c 0 0)) (band_load _ _ (off3_eq c))) $$ [Hb]; · iexact Hb
  iintro Hb
  iapply (wp_store 𝒱₀ (c : Thread nD τ) none Set.univ (m := oM) (r := Rect.unit (s := S2048x512) (k0_off3 c) S256x512.size (k0_off3_inb c)) (Mk := Finset.univ) (S := bset (bn c 0 0)) (band_store _ _ (off3_eq c))) $$ [Hb]; · iexact Hb
  iintro Hb
  ihave Hb := (Entails.of_eq (pointsTo_congr fun i hi => pay_total m c _ _ _ _ _ (off2_eq c) (off3_eq c) rfl rfl rfl f i hi)) $$ Hb
  simp only [wp_ret]
  imodintro
  iapply HQ
  isplitl [Hd]; · iexact Hd
  isplitl [Hx]; · iexact Hx
  isplitl [Hs0]; · iexact Hs0
  isplitl [Hs1]; · iexact Hs1
  isplitl [Hs2]; · iexact Hs2
  isplitl [Hb]; · iexact Hb
  iexact Ho

/-- Two copies of the band along the third axis; -/
theorem part9_run (c : Dev nD) (v2 v5 v8 v262 v263 : BitVec 32) {Q : _ → sProp 𝕄} :
    iprop(ctx m K ∗ kit c 13 18 ∗ oPt c (tk 0) (bn c 0 0) (total m c) ∗ bandFree c 18 (bn c 0 0) ∗ kit c 14 17 ∗ oPt c (tk 1) (bn c 0 0) (total m c) ∗ bandFree c 17 (bn c 0 0) ∗ ow c (left 10)
      ∗ (∀ r, (waiting c 7 ∗ waiting c 8 ∗ ow c (left 12)) -∗ Q r))
      ⊢ wpc c (k0_part9 xM (Memref.isWhole_whole _) oM (Memref.isWhole_whole _) rM (Memref.isWhole_whole _) cc0_scratch1 cc0_scratch2 cc0_scratch3
      cc0_scratch4 cc0_scratch5 cc0_scratch6 c v2 v5 v8 v262 v263) Q := by
  rw [k0_part9_eq_skeleton]
  unfold k0_part9_skel
  simp only [semSignalWord, semWaitWord, Prog.lift, Prog.bind_op, Prog.bind_ret, Prog.pure_eq_ret, wp_deviceId]
  iintro ⟨#HC, Hk, X0, Hf, Hk', X1, Hf', Ho, HQ⟩
  iapply (bandSend m K c _ 13 18 (dev11_eq c) (by decide) (by decide) (tk 0) (bn c 0 0) (off4_eq c) (bz_pay m c 0 13 18 rfl rfl).1 (bz_pay m c 0 13 18 rfl rfl).2
      sem7 sem12 (left 11)) $$ [Hk X0 Hf Ho]
  · isplitr; · iexact HC
    isplitl [Hk]; · iexact Hk
    isplitl [X0]; · iexact X0
    isplitl [Hf]; · iexact Hf
    iexact Ho
  iintro ⟨Hw, Ho⟩
  iapply (bandSend m K c _ 14 17 (dev12_eq c) (by decide) (by decide) (tk 1) (bn c 0 0) (off4_eq c) (bz_pay m c 1 14 17 rfl rfl).1 (bz_pay m c 1 14 17 rfl rfl).2
      sem8 sem11 (left 12)) $$ [Hk' X1 Hf' Ho]
  · isplitr; · iexact HC
    isplitl [Hk']; · iexact Hk'
    isplitl [X1]; · iexact X1
    isplitl [Hf']; · iexact Hf'
    iexact Ho
  iintro ⟨Hw', Ho⟩
  simp only [wp_ret]
  imodintro
  iapply HQ
  isplitl [Hw]; · iexact Hw
  isplitl [Hw']; · iexact Hw'
  iexact Ho

/-- the third, and the one along the first axis. -/
theorem part10_run (c : Dev nD) (v2 v5 v8 v9 v298 w w' : BitVec 32) {Q : _ → sProp 𝕄} :
    iprop(ctx m K ∗ kit c 15 16 ∗ oPt c (tk 2) (bn c 0 0) (total m c) ∗ bandFree c 16 (bn c 0 0) ∗ kit c 19 23 ∗ oPt c (tk 3) (bn c 0 0) (total m c) ∗ bandFree c 23 (bn c 0 0) ∗ ow c (left 12)
      ∗ (∀ r, (waiting c 9 ∗ waiting c 13 ∗ ow c (left 14)) -∗ Q r))
      ⊢ wpc c (k0_part10 xM (Memref.isWhole_whole _) oM (Memref.isWhole_whole _) rM (Memref.isWhole_whole _) cc0_scratch1 cc0_scratch2 cc0_scratch3
      cc0_scratch4 cc0_scratch5 cc0_scratch6 c v2 v5 v8 v9 v298 w w') Q := by
  rw [k0_part10_eq_skeleton]
  unfold k0_part10_skel
  simp only [semSignalWord, semWaitWord, Prog.lift, Prog.bind_op, Prog.bind_ret, Prog.pure_eq_ret, wp_deviceId]
  iintro ⟨#HC, Hk, X2, Hf, Hk', X3, Hf', Ho, HQ⟩
  iapply (bandSend m K c _ 15 16 (dev13_eq c) (by decide) (by decide) (tk 2) (bn c 0 0) (off4_eq c) (bz_pay m c 2 15 16 rfl rfl).1 (bz_pay m c 2 15 16 rfl rfl).2
      sem9 sem10 (left 13)) $$ [Hk X2 Hf Ho]
  · isplitr; · iexact HC
    isplitl [Hk]; · iexact Hk
    isplitl [X2]; · iexact X2
    isplitl [Hf]; · iexact Hf
    iexact Ho
  iintro ⟨Hw, Ho⟩
  iapply (bandSend m K c _ 19 23 (dev14_eq c) (by decide) (by decide) (tk 3) (bn c 0 0) (off4_eq c) (bx_pay m c).1 (bx_pay m c).2
      sem13 sem17 (left 14)) $$ [Hk' X3 Hf' Ho]
  · isplitr; · iexact HC
    isplitl [Hk']; · iexact Hk'
    isplitl [X3]; · iexact X3
    isplitl [Hf']; · iexact Hf'
    iexact Ho
  iintro ⟨Hw', Ho⟩
  simp only [wp_ret]
  imodintro
  iapply HQ
  isplitl [Hw]; · iexact Hw
  isplitl [Hw']; · iexact Hw'
  iexact Ho

/-- A band arrives along the third axis; -/
theorem part11_run (c : Dev nD) (v2 v5 v8 v9 v334 : BitVec 32) {Q : _ → sProp 𝕄} :
    iprop(ctx m K ∗ waiting c 10 ∗ ow c (left 14)
      ∗ (∀ r, (done c 10 ∗ oPt c fullShare (bn c 0 1) (total m c) ∗ ow c (left 14)) -∗ Q r))
      ⊢ wpc c (k0_part11 xM (Memref.isWhole_whole _) oM (Memref.isWhole_whole _) rM (Memref.isWhole_whole _) cc0_scratch1 cc0_scratch2 cc0_scratch3
      cc0_scratch4 cc0_scratch5 cc0_scratch6 c v2 v5 v8 v9 v334) Q := by
  rw [k0_part11_eq_skeleton]
  unfold k0_part11_skel
  simp only [semSignalWord, semWaitWord, Prog.lift, Prog.bind_op, Prog.bind_ret, Prog.pure_eq_ret, wp_deviceId]
  iintro ⟨#HC, H10, Ho, HQ⟩
  iapply (recv m K c 10 (by decide) sem10 (oPt c fullShare (bn c 0 1) (total m c)) rfl (left 14) (by decide)) $$ [H10 Ho]
  · isplitr; · iexact HC
    isplitl [H10]; · iexact H10
    iexact Ho
  iintro ⟨D10, P10, Ho⟩
  simp only [wp_ret]
  imodintro
  iapply HQ
  isplitl [D10]; · iexact D10
  isplitl [P10]; · iexact P10
  iexact Ho

/-- it is passed on along the first axis, and the next arrives; -/
theorem part12_run (c : Dev nD) (v2 v5 v8 v9 : BitVec 32) {Q : _ → sProp 𝕄} :
    iprop(ctx m K ∗ kit c 20 24 ∗ oPt c fullShare (bn c 0 1) (total m c) ∗ bandFree c 24 (bn c 0 1) ∗ waiting c 11 ∗ ow c (left 14)
      ∗ (∀ r, (waiting c 14 ∗ done c 11 ∗ oPt c fullShare (bn c 0 2) (total m c) ∗ ow c (left 15)) -∗ Q r))
      ⊢ wpc c (k0_part12 xM (Memref.isWhole_whole _) oM (Memref.isWhole_whole _) rM (Memref.isWhole_whole _) cc0_scratch1 cc0_scratch2 cc0_scratch3
      cc0_scratch4 cc0_scratch5 cc0_scratch6 c v2 v5 v8 v9) Q := by
  rw [k0_part12_eq_skeleton]
  unfold k0_part12_skel
  simp only [semSignalWord, semWaitWord, Prog.lift, Prog.bind_op, Prog.bind_ret, Prog.pure_eq_ret, wp_deviceId]
  iintro ⟨#HC, Hk, X, Hf, H, Ho, HQ⟩
  iapply (bandSend m K c _ 20 24 (dev15_eq c) (by decide) (by decide) fullShare (bn c 0 1) (off5_eq c 0) (fw_pay m c 0 20 24 rfl rfl).1 (fw_pay m c 0 20 24 rfl rfl).2
      sem14 sem18 (left 15)) $$ [Hk X Hf Ho]
  · isplitr; · iexact HC
    isplitl [Hk]; · iexact Hk
    isplitl [X]; · iexact X
    isplitl [Hf]; · iexact Hf
    iexact Ho
  iintro ⟨Hw, Ho⟩
  iapply (recv m K c 11 (by decide) sem11 (oPt c fullShare (bn c 0 2) (total m c)) rfl (left 15) (by decide)) $$ [H Ho]
  · isplitr; · iexact HC
    isplitl [H]; · iexact H
    iexact Ho
  iintro ⟨D, P, Ho⟩
  simp only [wp_ret]
  imodintro
  iapply HQ
  isplitl [Hw]; · iexact Hw
  isplitl [D]; · iexact D
  isplitl [P]; · iexact P
  iexact Ho

/-- likewise; -/
theorem part13_run (c : Dev nD) (v2 v5 v8 v9 : BitVec 32) {Q : _ → sProp 𝕄} :
    iprop(ctx m K ∗ kit c 21 25 ∗ oPt c fullShare (bn c 0 2) (total m c) ∗ bandFree c 25 (bn c 0 2) ∗ waiting c 12 ∗ ow c (left 15)
      ∗ (∀ r, (waiting c 15 ∗ done c 12 ∗ oPt c fullShare (bn c 0 3) (total m c) ∗ ow c (left 16)) -∗ Q r))
      ⊢ wpc c (k0_part13 xM (Memref.isWhole_whole _) oM (Memref.isWhole_whole _) rM (Memref.isWhole_whole _) cc0_scratch1 cc0_scratch2 cc0_scratch3
      cc0_scratch4 cc0_scratch5 cc0_scratch6 c v2 v5 v8 v9) Q := by
  rw [k0_part13_eq_skeleton]
  unfold k0_part13_skel
  simp only [semSignalWord, semWaitWord, Prog.lift, Prog.bind_op, Prog.bind_ret, Prog.pure_eq_ret, wp_deviceId]
  iintro ⟨#HC, Hk, X, Hf, H, Ho, HQ⟩
  iapply (bandSend m K c _ 21 25 (dev16_eq c) (by decide) (by decide) fullShare (bn c 0 2) (off5_eq c 1) (fw_pay m c 1 21 25 rfl rfl).1 (fw_pay m c 1 21 25 rfl rfl).2
      sem15 sem19 (left 16)) $$ [Hk X Hf Ho]
  · isplitr; · iexact HC
    isplitl [Hk]; · iexact Hk
    isplitl [X]; · iexact X
    isplitl [Hf]; · iexact Hf
    iexact Ho
  iintro ⟨Hw, Ho⟩
  iapply (recv m K c 12 (by decide) sem12 (oPt c fullShare (bn c 0 3) (total m c)) rfl (left 16) (by decide)) $$ [H Ho]
  · isplitr; · iexact HC
    isplitl [H]; · iexact H
    iexact Ho
  iintro ⟨D, P, Ho⟩
  simp only [wp_ret]
  imodintro
  iapply HQ
  isplitl [Hw]; · iexact Hw
  isplitl [D]; · iexact D
  isplitl [P]; · iexact P
  iexact Ho

/-- the last is passed on, and the first band from the other half arrives. -/
theorem part14_run (c : Dev nD) (v5 v8 v9 v435 w : BitVec 32) {Q : _ → sProp 𝕄} :
    iprop(ctx m K ∗ kit c 22 26 ∗ oPt c fullShare (bn c 0 3) (total m c) ∗ bandFree c 26 (bn c 0 3) ∗ waiting c 17 ∗ ow c (left 16)
      ∗ (∀ r, (waiting c 16 ∗ done c 17 ∗ oPt c fullShare (bn c 1 0) (total m c) ∗ ow c (left 17)) -∗ Q r))
      ⊢ wpc c (k0_part14 xM (Memref.isWhole_whole _) oM (Memref.isWhole_whole _) rM (Memref.isWhole_whole _) cc0_scratch1 cc0_scratch2 cc0_scratch3
      cc0_scratch4 cc0_scratch5 cc0_scratch6 c v5 v8 v9 v435 w) Q := by
  rw [k0_part14_eq_skeleton]
  unfold k0_part14_skel
  simp only [semSignalWord, semWaitWord, Prog.lift, Prog.bind_op, Prog.bind_ret, Prog.pure_eq_ret, wp_deviceId]
  iintro ⟨#HC, Hk, X, Hf, H, Ho, HQ⟩
  iapply (bandSend m K c _ 22 26 (dev17_eq c) (by decide) (by decide) fullShare (bn c 0 3) (off5_eq c 2) (fw_pay m c 2 22 26 rfl rfl).1 (fw_pay m c 2 22 26 rfl rfl).2
      sem16 sem20 (left 17)) $$ [Hk X Hf Ho]
  · isplitr; · iexact HC
    isplitl [Hk]; · iexact Hk
    isplitl [X]; · iexact X
    isplitl [Hf]; · iexact Hf
    iexact Ho
  iintro ⟨Hw, Ho⟩
  iapply (recv m K c 17 (by decide) sem17 (oPt c fullShare (bn c 1 0) (total m c)) rfl (left 17) (by decide)) $$ [H Ho]
  · isplitr; · iexact HC
    isplitl [H]; · iexact H
    iexact Ho
  iintro ⟨D, P, Ho⟩
  simp only [wp_ret]
  imodintro
  iapply HQ
  isplitl [Hw]; · iexact Hw
  isplitl [D]; · iexact D
  isplitl [P]; · iexact P
  iexact Ho

/-- The second arrives; -/
theorem part15_run (c : Dev nD) (v5 v8 v9 v468 v470 : BitVec 32) {Q : _ → sProp 𝕄} :
    iprop(ctx m K ∗ waiting c 18 ∗ ow c (left 17)
      ∗ (∀ r, (done c 18 ∗ oPt c fullShare (bn c 1 1) (total m c) ∗ ow c (left 17)) -∗ Q r))
      ⊢ wpc c (k0_part15 xM (Memref.isWhole_whole _) oM (Memref.isWhole_whole _) rM (Memref.isWhole_whole _) cc0_scratch1 cc0_scratch2 cc0_scratch3
      cc0_scratch4 cc0_scratch5 cc0_scratch6 c v5 v8 v9 v468 v470) Q := by
  rw [k0_part15_eq_skeleton]
  unfold k0_part15_skel
  simp only [semSignalWord, semWaitWord, Prog.lift, Prog.bind_op, Prog.bind_ret, Prog.pure_eq_ret, wp_deviceId]
  iintro ⟨#HC, H18, Ho, HQ⟩
  iapply (recv m K c 18 (by decide) sem18 (oPt c fullShare (bn c 1 1) (total m c)) rfl (left 17) (by decide)) $$ [H18 Ho]
  · isplitr; · iexact HC
    isplitl [H18]; · iexact H18
    iexact Ho
  iintro ⟨D18, P18, Ho⟩
  simp only [wp_ret]
  imodintro
  iapply HQ
  isplitl [D18]; · iexact D18
  isplitl [P18]; · iexact P18
  iexact Ho

/-- the third and the fourth. -/
theorem part16_run (c : Dev nD) (v5 v8 v9 : BitVec 32) {Q : _ → sProp 𝕄} :
    iprop(ctx m K ∗ waiting c 19 ∗ waiting c 20 ∗ ow c (left 17)
      ∗ (∀ r, (done c 19 ∗ oPt c fullShare (bn c 1 2) (total m c) ∗ done c 20 ∗ oPt c fullShare (bn c 1 3) (total m c) ∗ ow c (left 17)) -∗ Q r))
      ⊢ wpc c (k0_part16 xM (Memref.isWhole_whole _) oM (Memref.isWhole_whole _) rM (Memref.isWhole_whole _) cc0_scratch1 cc0_scratch2 cc0_scratch3
      cc0_scratch4 cc0_scratch5 cc0_scratch6 c v5 v8 v9) Q := by
  rw [k0_part16_eq_skeleton]
  unfold k0_part16_skel
  simp only [semSignalWord, semWaitWord, Prog.lift, Prog.bind_op, Prog.bind_ret, Prog.pure_eq_ret, wp_deviceId]
  iintro ⟨#HC, H19, H20, Ho, HQ⟩
  iapply (recv m K c 19 (by decide) sem19 (oPt c fullShare (bn c 1 2) (total m c)) rfl (left 17) (by decide)) $$ [H19 Ho]
  · isplitr; · iexact HC
    isplitl [H19]; · iexact H19
    iexact Ho
  iintro ⟨D19, P19, Ho⟩
  iapply (recv m K c 20 (by decide) sem20 (oPt c fullShare (bn c 1 3) (total m c)) rfl (left 17) (by decide)) $$ [H20 Ho]
  · isplitr; · iexact HC
    isplitl [H20]; · iexact H20
    iexact Ho
  iintro ⟨D20, P20, Ho⟩
  simp only [wp_ret]
  imodintro
  iapply HQ
  isplitl [D19]; · iexact D19
  isplitl [P19]; · iexact P19
  isplitl [D20]; · iexact D20
  isplitl [P20]; · iexact P20
  iexact Ho

/-- Four of the device's own copies have been read; -/
theorem part17_run (c : Dev nD)  {Q : _ → sProp 𝕄} :
    iprop(ctx m K ∗ waiting c 1 ∗ waiting c 2 ∗ waiting c 3 ∗ waiting c 7 ∗ ow c (left 17)
      ∗ (∀ r, (done c 1 ∗ xPt m c 1 ∗ done c 2 ∗ xPt m c 2 ∗ done c 3 ∗ xPt m c 3 ∗ done c 7 ∗ oPt c (tk 0) (bn c 0 0) (total m c) ∗ ow c (left 17)) -∗ Q r))
      ⊢ wpc c (k0_part17 xM (Memref.isWhole_whole _) oM (Memref.isWhole_whole _) rM (Memref.isWhole_whole _) cc0_scratch1 cc0_scratch2 cc0_scratch3
      cc0_scratch4 cc0_scratch5 cc0_scratch6 c) Q := by
  rw [k0_part17_eq_skeleton]
  unfold k0_part17_skel
  simp only [semSignalWord, semWaitWord, Prog.lift, Prog.bind_op, Prog.bind_ret, Prog.pure_eq_ret, wp_deviceId]
  iintro ⟨#HC, H1, H2, H3, H7, Ho, HQ⟩
  iapply (recv m K c 1 (by decide) sem1 (xPt m c 1) rfl (left 17) (by decide)) $$ [H1 Ho]
  · isplitr; · iexact HC
    isplitl [H1]; · iexact H1
    iexact Ho
  iintro ⟨D1, P1, Ho⟩
  iapply (recv m K c 2 (by decide) sem2 (xPt m c 2) rfl (left 17) (by decide)) $$ [H2 Ho]
  · isplitr; · iexact HC
    isplitl [H2]; · iexact H2
    iexact Ho
  iintro ⟨D2, P2, Ho⟩
  iapply (recv m K c 3 (by decide) sem3 (xPt m c 3) rfl (left 17) (by decide)) $$ [H3 Ho]
  · isplitr; · iexact HC
    isplitl [H3]; · iexact H3
    iexact Ho
  iintro ⟨D3, P3, Ho⟩
  iapply (recv m K c 7 (by decide) sem7 (oPt c (tk 0) (bn c 0 0) (total m c)) rfl (left 17) (by decide)) $$ [H7 Ho]
  · isplitr; · iexact HC
    isplitl [H7]; · iexact H7
    iexact Ho
  iintro ⟨D7, P7, Ho⟩
  simp only [wp_ret]
  imodintro
  iapply HQ
  isplitl [D1]; · iexact D1
  isplitl [P1]; · iexact P1
  isplitl [D2]; · iexact D2
  isplitl [P2]; · iexact P2
  isplitl [D3]; · iexact D3
  isplitl [P3]; · iexact P3
  isplitl [D7]; · iexact D7
  isplitl [P7]; · iexact P7
  iexact Ho

/-! ## The body -/

omit [FloatOps F] in
/-- A band is its four shares to read it at and the rest of it. -/
theorem band_shares (c : Dev nD) (b : ℕ) (f) : (oPt c fullShare b f : sProp 𝕄)
    ⊣⊢ iprop(oPt c (Transfers.shareDrop fullShare 4) b f ∗ oPt c (tk 0) b f ∗ oPt c (tk 1) b f ∗ oPt c (tk 2) b f ∗ oPt c (tk 3) b f) := by
  have e : bigSep Finset.univ (fun i : Fin 4 => (oPt c (tk i.val) b f : sProp 𝕄))
      = iprop(oPt c (tk 0) b f ∗ oPt c (tk 1) b f ∗ oPt c (tk 2) b f ∗ oPt c (tk 3) b f) :=
    bigSep_univ_eq_bigSepL [0, 1, 2, 3] (by decide) (by decide) _
  rw [← e]
  exact ⟨Transfers.pointsTo_toks_split fullShare 4, Transfers.pointsTo_toks_join fullShare 4⟩

/-- What the body starts from: the rights to signal, the copies' pieces, what is on its way here, and the device's own data. -/
def begun (c : Dev nD) : sProp 𝕄 :=
  iprop(sg c 0 ∗ sg c 1 ∗ sg c 2 ∗ sg c 3 ∗ sg c 4 ∗ sg c 5 ∗ sg c 6 ∗ kit c 7 12 ∗ kit c 8 11 ∗ kit c 9 10 ∗ kit c 13 18
      ∗ kit c 14 17 ∗ kit c 15 16 ∗ kit c 19 23 ∗ kit c 20 24 ∗ kit c 21 25 ∗ kit c 22 26 ∗ waiting c 0 ∗ waiting c 4
      ∗ waiting c 5 ∗ waiting c 6 ∗ waiting c 10 ∗ waiting c 11 ∗ waiting c 12 ∗ waiting c 17 ∗ waiting c 18 ∗ waiting c 19
      ∗ waiting c 20 ∗ xPt m c 1 ∗ xPt m c 2 ∗ xPt m c 3 ∗ xR m c ∗ (∃ f, oPt c fullShare (bn c 0 0) f) ∗ ow c (left 0))
/-- What it ends with but for the last wait: the data, whole again but for one band being read, every cell but one done with. -/
def nearly (c : Dev nD) : sProp 𝕄 :=
  iprop(xPt m c 1 ∗ xPt m c 2 ∗ xPt m c 3 ∗ xR m c ∗ sPt c 0 (landed m c) ∗ sPt c 1 (landed m c) ∗ sPt c 2 (landed m c)
      ∗ oPt c (Transfers.shareDrop fullShare 4) (bn c 0 0) (total m c) ∗ oPt c (tk 0) (bn c 0 0) (total m c)
      ∗ oPt c (tk 1) (bn c 0 0) (total m c) ∗ oPt c (tk 2) (bn c 0 0) (total m c) ∗ oPt c (tk 3) (bn c 0 0) (total m c)
      ∗ oPt c fullShare (bn c 0 1) (total m c) ∗ oPt c fullShare (bn c 0 2) (total m c)
      ∗ oPt c fullShare (bn c 1 0) (total m c) ∗ oPt c fullShare (bn c 1 1) (total m c)
      ∗ oPt c fullShare (bn c 1 2) (total m c) ∗ oPt c fullShare (bn c 1 3) (total m c)
    ∗ done c 0 ∗ done c 1 ∗ done c 2 ∗ done c 3 ∗ done c 4 ∗ done c 5 ∗ done c 6 ∗ done c 7 ∗ done c 8 ∗ done c 9 ∗ done c 10
      ∗ done c 11 ∗ done c 12 ∗ done c 13 ∗ done c 14 ∗ done c 15 ∗ done c 17 ∗ done c 18 ∗ done c 19 ∗ done c 20
    ∗ waiting c 16 ∗ ow c (left 17))
/-- What it ends with. -/
def ended (c : Dev nD) : sProp 𝕄 :=
  iprop(xPt m c 1 ∗ xPt m c 2 ∗ xPt m c 3 ∗ xR m c ∗ sPt c 0 (landed m c) ∗ sPt c 1 (landed m c) ∗ sPt c 2 (landed m c)
      ∗ oPt c (Transfers.shareDrop fullShare 4) (bn c 0 0) (total m c) ∗ oPt c (tk 0) (bn c 0 0) (total m c)
      ∗ oPt c (tk 1) (bn c 0 0) (total m c) ∗ oPt c (tk 2) (bn c 0 0) (total m c) ∗ oPt c (tk 3) (bn c 0 0) (total m c)
      ∗ oPt c fullShare (bn c 0 1) (total m c) ∗ oPt c fullShare (bn c 0 2) (total m c)
      ∗ oPt c fullShare (bn c 0 3) (total m c) ∗ oPt c fullShare (bn c 1 0) (total m c)
      ∗ oPt c fullShare (bn c 1 1) (total m c) ∗ oPt c fullShare (bn c 1 2) (total m c)
      ∗ oPt c fullShare (bn c 1 3) (total m c)
    ∗ done c 0 ∗ done c 1 ∗ done c 2 ∗ done c 3 ∗ done c 4 ∗ done c 5 ∗ done c 6 ∗ done c 7 ∗ done c 8 ∗ done c 9 ∗ done c 10
      ∗ done c 11 ∗ done c 12 ∗ done c 13 ∗ done c 14 ∗ done c 15 ∗ done c 16 ∗ done c 17 ∗ done c 18 ∗ done c 19 ∗ done c 20
    ∗ ow c (left 17))

/-- The body up to its last wait. -/
theorem part18_run (c : Dev nD) {Q : _ → sProp 𝕄} :
    iprop(ctx m K ∗ begun m c ∗ (nearly m c -∗ Q c))
      ⊢ wpc c (k0_part18 xM (Memref.isWhole_whole _) oM (Memref.isWhole_whole _) rM (Memref.isWhole_whole _) cc0_scratch1 cc0_scratch2 cc0_scratch3
      cc0_scratch4 cc0_scratch5 cc0_scratch6) Q := by
  rw [k0_part18_eq_skeleton]
  unfold k0_part18_skel begun
  simp only [Prog.lift, Prog.bind_op, Prog.bind_ret, Prog.pure_eq_ret, wp_bind]
  iintro ⟨#HC, ⟨S0, S1, S2, S3, S4, S5, S6, K7, K8, K9, K13, K14, K15, K19, K20, K21, K22, W0, W4, W5, W6, W10, W11, W12, W17, W18, W19, W20, X1, X2, X3, XR, B, Ho⟩, HQ⟩
  iapply (part1_run m K c)
  isplitr; · iexact HC
  isplitl [S0]; · iexact S0
  isplitl [Ho]; · iexact Ho
  iintro %v2 %v5 %v8 %v9 %v12 %v31 %w %v32 %w' Ho
  simp only [wp_bind]
  iapply (part2_run m K c _ _ _ _ _ _ _)
  isplitr; · iexact HC
  isplitl [S1]; · iexact S1
  isplitl [S2]; · iexact S2
  isplitl [Ho]; · iexact Ho
  iintro %r Ho
  obtain ⟨u0, u1, u2, u3⟩ := r
  simp only [wp_bind]
  iapply (part3_run m K c _ _ _ _ _ _ _)
  isplitr; · iexact HC
  isplitl [S3]; · iexact S3
  isplitl [S4]; · iexact S4
  isplitl [Ho]; · iexact Ho
  iintro %r Ho
  obtain ⟨t0, t1, t2, t3⟩ := r
  simp only [wp_bind]
  iapply (part4_run m K c _ _ _ _ _ _ _ _)
  isplitr; · iexact HC
  isplitl [S5]; · iexact S5
  isplitl [S6]; · iexact S6
  isplitl [W0]; · iexact W0
  isplitl [Ho]; · iexact Ho
  iintro %v132 ⟨D0, Hp, Ho⟩
  unfold places
  icases Hp with ⟨F10, F11, F12, F16, F17, F18, F23, F24, F25, F26⟩
  iapply (part5_run m K c _ _ _ _)
  isplitr; · iexact HC
  isplitl [K7]; · iexact K7
  isplitl [X1]; · iexact X1
  isplitl [F12]; · iexact F12
  isplitl [Ho]; · iexact Ho
  iintro %r5 ⟨W1, Ho⟩
  iapply (part6_run m K c _ _ _)
  isplitr; · iexact HC
  isplitl [K8]; · iexact K8
  isplitl [X2]; · iexact X2
  isplitl [F11]; · iexact F11
  isplitl [K9]; · iexact K9
  isplitl [X3]; · iexact X3
  isplitl [F10]; · iexact F10
  isplitl [Ho]; · iexact Ho
  iintro %r6 ⟨W2, W3, Ho⟩
  iapply (part7_run m K c _ _ _ _)
  isplitr; · iexact HC
  isplitl [W4]; · iexact W4
  isplitl [W5]; · iexact W5
  isplitl [Ho]; · iexact Ho
  iintro %r7 ⟨D4, SA, D5, SB, Ho⟩
  iapply (part8_run m K c _ _ _ _)
  isplitr; · iexact HC
  isplitl [W6]; · iexact W6
  isplitl [XR]; · iexact XR
  isplitl [SA]; · iexact SA
  isplitl [SB]; · iexact SB
  isplitl [B]; · iexact B
  isplitl [Ho]; · iexact Ho
  iintro %r8 ⟨D6, XR, SA, SB, SC, B, Ho⟩
  obtain ⟨v262, v263⟩ := r8
  simp only [wp_bind]
  ihave Hb := (band_shares c _ _).1 $$ B
  icases Hb with ⟨BD, B0, B1, B2, B3⟩
  iapply (part9_run m K c _ _ _ _ _)
  isplitr; · iexact HC
  isplitl [K13]; · iexact K13
  isplitl [B0]; · iexact B0
  isplitl [F18]; · iexact F18
  isplitl [K14]; · iexact K14
  isplitl [B1]; · iexact B1
  isplitl [F17]; · iexact F17
  isplitl [Ho]; · iexact Ho
  iintro %r9 ⟨W7, W8, Ho⟩
  obtain ⟨v298, z1, z2⟩ := r9
  simp only [wp_bind]
  iapply (part10_run m K c _ _ _ _ _ _ _)
  isplitr; · iexact HC
  isplitl [K15]; · iexact K15
  isplitl [B2]; · iexact B2
  isplitl [F16]; · iexact F16
  isplitl [K19]; · iexact K19
  isplitl [B3]; · iexact B3
  isplitl [F23]; · iexact F23
  isplitl [Ho]; · iexact Ho
  iintro %v334 ⟨W9, W13, Ho⟩
  iapply (part11_run m K c _ _ _ _ _)
  isplitr; · iexact HC
  isplitl [W10]; · iexact W10
  isplitl [Ho]; · iexact Ho
  iintro %r11 ⟨D10, A1, Ho⟩
  iapply (part12_run m K c _ _ _ _)
  isplitr; · iexact HC
  isplitl [K20]; · iexact K20
  isplitl [A1]; · iexact A1
  isplitl [F24]; · iexact F24
  isplitl [W11]; · iexact W11
  isplitl [Ho]; · iexact Ho
  iintro %r12 ⟨W14, D11, A2, Ho⟩
  iapply (part13_run m K c _ _ _ _)
  isplitr; · iexact HC
  isplitl [K21]; · iexact K21
  isplitl [A2]; · iexact A2
  isplitl [F25]; · iexact F25
  isplitl [W12]; · iexact W12
  isplitl [Ho]; · iexact Ho
  iintro %r13 ⟨W15, D12, A3, Ho⟩
  obtain ⟨v435, z3⟩ := r13
  simp only [wp_bind]
  iapply (part14_run m K c _ _ _ _ _)
  isplitr; · iexact HC
  isplitl [K22]; · iexact K22
  isplitl [A3]; · iexact A3
  isplitl [F26]; · iexact F26
  isplitl [W17]; · iexact W17
  isplitl [Ho]; · iexact Ho
  iintro %r14 ⟨W16, D17, P17, Ho⟩
  obtain ⟨v468, v470⟩ := r14
  simp only [wp_bind]
  iapply (part15_run m K c _ _ _ _ _)
  isplitr; · iexact HC
  isplitl [W18]; · iexact W18
  isplitl [Ho]; · iexact Ho
  iintro %r15 ⟨D18, P18, Ho⟩
  iapply (part16_run m K c _ _ _)
  isplitr; · iexact HC
  isplitl [W19]; · iexact W19
  isplitl [W20]; · iexact W20
  isplitl [Ho]; · iexact Ho
  iintro %r16 ⟨D19, P19, D20, P20, Ho⟩
  iapply (part17_run m K c)
  isplitr; · iexact HC
  isplitl [W1]; · iexact W1
  isplitl [W2]; · iexact W2
  isplitl [W3]; · iexact W3
  isplitl [W7]; · iexact W7
  isplitl [Ho]; · iexact Ho
  iintro %r17 ⟨D1, P1, D2, P2, D3, P3, D7, P7, Ho⟩
  iapply (recv m K c 8 (by decide) sem8 (oPt c (tk 1) (bn c 0 0) (total m c)) rfl (left 17) (by decide)) $$ [W8 Ho]
  · isplitr; · iexact HC
    isplitl [W8]; · iexact W8
    iexact Ho
  iintro ⟨D8, P8, Ho⟩
  iapply (recv m K c 9 (by decide) sem9 (oPt c (tk 2) (bn c 0 0) (total m c)) rfl (left 17) (by decide)) $$ [W9 Ho]
  · isplitr; · iexact HC
    isplitl [W9]; · iexact W9
    iexact Ho
  iintro ⟨D9, P9, Ho⟩
  iapply (recv m K c 13 (by decide) sem13 (oPt c (tk 3) (bn c 0 0) (total m c)) rfl (left 17) (by decide)) $$ [W13 Ho]
  · isplitr; · iexact HC
    isplitl [W13]; · iexact W13
    iexact Ho
  iintro ⟨D13, P13, Ho⟩
  iapply (recv m K c 14 (by decide) sem14 (oPt c fullShare (bn c 0 1) (total m c)) rfl (left 17) (by decide)) $$ [W14 Ho]
  · isplitr; · iexact HC
    isplitl [W14]; · iexact W14
    iexact Ho
  iintro ⟨D14, P14, Ho⟩
  iapply (recv m K c 15 (by decide) sem15 (oPt c fullShare (bn c 0 2) (total m c)) rfl (left 17) (by decide)) $$ [W15 Ho]
  · isplitr; · iexact HC
    isplitl [W15]; · iexact W15
    iexact Ho
  iintro ⟨D15, P15, Ho⟩
  simp only [wp_ret]
  imodintro
  iapply HQ
  unfold nearly
  isplitl [P1]; · iexact P1
  isplitl [P2]; · iexact P2
  isplitl [P3]; · iexact P3
  isplitl [XR]; · iexact XR
  isplitl [SA]; · iexact SA
  isplitl [SB]; · iexact SB
  isplitl [SC]; · iexact SC
  isplitl [BD]; · iexact BD
  isplitl [P7]; · iexact P7
  isplitl [P8]; · iexact P8
  isplitl [P9]; · iexact P9
  isplitl [P13]; · iexact P13
  isplitl [P14]; · iexact P14
  isplitl [P15]; · iexact P15
  isplitl [P17]; · iexact P17
  isplitl [P18]; · iexact P18
  isplitl [P19]; · iexact P19
  isplitl [P20]; · iexact P20
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [D15]; · iexact D15
  isplitl [D17]; · iexact D17
  isplitl [D18]; · iexact D18
  isplitl [D19]; · iexact D19
  isplitl [D20]; · iexact D20
  isplitl [W16]; · iexact W16
  iexact Ho

/-- The whole body. -/
theorem body_run (c : Dev nD) {Q : _ → sProp 𝕄} :
    iprop(ctx m K ∗ begun m c ∗ (ended m c -∗ Q ⟨⟩))
      ⊢ wpc c (cc0_body xM (Memref.isWhole_whole _) oM (Memref.isWhole_whole _) rM (Memref.isWhole_whole _) cc0_scratch1 cc0_scratch2 cc0_scratch3
      cc0_scratch4 cc0_scratch5 cc0_scratch6) Q := by
  rw [cc0_body_eq_skeleton]
  unfold cc0_body_skel
  simp only [Prog.lift, Prog.bind_op, Prog.bind_ret, Prog.pure_eq_ret, wp_bind]
  iintro ⟨#HC, HB, HQ⟩
  iapply (part18_run m K c)
  isplitr; · iexact HC
  isplitl [HB]; · iexact HB
  iintro HN
  unfold nearly
  icases HN with ⟨P1, P2, P3, XR, SA, SB, SC, BD, P7, P8, P9, P13, P14, P15, P17, P18, P19, P20, D0, D1, D2, D3, D4, D5, D6, D7, D8, D9, D10, D11, D12, D13, D14, D15, D17, D18, D19, D20, W16, Ho⟩
  iapply (recv m K c 16 (by decide) sem16 (oPt c fullShare (bn c 0 3) (total m c)) rfl (left 17) (by decide)) $$ [W16 Ho]
  · isplitr; · iexact HC
    isplitl [W16]; · iexact W16
    iexact Ho
  iintro ⟨D16, P16, Ho⟩
  simp only [wp_ret]
  imodintro
  iapply HQ
  unfold ended
  isplitl [P1]; · iexact P1
  isplitl [P2]; · iexact P2
  isplitl [P3]; · iexact P3
  isplitl [XR]; · iexact XR
  isplitl [SA]; · iexact SA
  isplitl [SB]; · iexact SB
  isplitl [SC]; · iexact SC
  isplitl [BD]; · iexact BD
  isplitl [P7]; · iexact P7
  isplitl [P8]; · iexact P8
  isplitl [P9]; · iexact P9
  isplitl [P13]; · iexact P13
  isplitl [P14]; · iexact P14
  isplitl [P15]; · iexact P15
  isplitl [P16]; · iexact P16
  isplitl [P17]; · iexact P17
  isplitl [P18]; · iexact P18
  isplitl [P19]; · iexact P19
  isplitl [P20]; · iexact P20
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [D15]; · iexact D15
  isplitl [D16]; · iexact D16
  isplitl [D17]; · iexact D17
  isplitl [D18]; · iexact D18
  isplitl [D19]; · iexact D19
  isplitl [D20]; · iexact D20
  iexact Ho

end Cert.RS
-- ==== Proof.Whole.lean ====
/-
# From the launch's holdings to the body's and back

The buffers, held whole, are the pieces the body works with; the rights, the cells and the credit the launch deals a
device are what the body starts from; what it ends with is the buffers whole again.
-/
module

public import proofs.«01_k».proof.Proof.Body
public import Idealize.ShloMosaic.Lib.Ring
public import Idealize.ShloMosaic.Lib.Pipeline.Launch

@[expose] public section

set_option maxRecDepth 16384

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 21 → ℕ)

/-! ## The buffers -/

/-- The staged argument: the three blocks that are sent, and the rest. -/
theorem x_split (c : Dev nD) : (((c : Thread nD τ).loc cc0_stg0_0 ↦{fullShare} xstg m c) : sProp 𝕄)
    ⊣⊢ iprop(xPt m c 1 ∗ xPt m c 2 ∗ xPt m c 3 ∗ xR m c) := by
  have e12 : cl c 1 ≠ cl c 2 := by unfold cl; omega
  have e13 : cl c 1 ≠ cl c 3 := by unfold cl; omega
  have e23 : cl c 2 ≠ cl c 3 := by unfold cl; omega
  have s1 : xset (bn c 0 0) (cl c 1) ⊆ (Finset.univ : Finset S1x2048x2048.Idx) := Finset.subset_univ _
  have s2 : xset (bn c 0 0) (cl c 2) ⊆ (Finset.univ : Finset S1x2048x2048.Idx) \ xset (bn c 0 0) (cl c 1) := fun i hi =>
    Finset.mem_sdiff.mpr ⟨Finset.mem_univ _, fun h => e12 ((mem_xset.mp h).2.symm.trans (mem_xset.mp hi).2)⟩
  have s3 : xset (bn c 0 0) (cl c 3) ⊆ ((Finset.univ : Finset S1x2048x2048.Idx) \ xset (bn c 0 0) (cl c 1)) \ xset (bn c 0 0) (cl c 2) := fun i hi =>
    Finset.mem_sdiff.mpr ⟨Finset.mem_sdiff.mpr ⟨Finset.mem_univ _, fun h => e13 ((mem_xset.mp h).2.symm.trans (mem_xset.mp hi).2)⟩,
      fun h => e23 ((mem_xset.mp h).2.symm.trans (mem_xset.mp hi).2)⟩
  have h1 := pointsTo_split_subset (Ix := Unit) (Name := ℕ) (U := UU) (Lvl := ℕ) (ℓ := (c : Thread nD τ).loc cc0_stg0_0) (q := fullShare) (f := xstg m c) s1
  have h2 := pointsTo_split_subset (Ix := Unit) (Name := ℕ) (U := UU) (Lvl := ℕ) (ℓ := (c : Thread nD τ).loc cc0_stg0_0) (q := fullShare) (f := xstg m c) s2
  have h3 := pointsTo_split_subset (Ix := Unit) (Name := ℕ) (U := UU) (Lvl := ℕ) (ℓ := (c : Thread nD τ).loc cc0_stg0_0) (q := fullShare) (f := xstg m c) s3
  unfold xPt xR xRest
  exact ⟨h1.1.trans (sep_mono_right (h2.1.trans (sep_mono_right h3.1))), (sep_mono_right ((sep_mono_right h3.2).trans h2.2)).trans h1.2⟩

omit [FloatOps F] in
/-- The scratch buffer: its three slots. -/
theorem s_split (c : Dev nD) (f) : (((c : Thread nD τ).loc cc0_scratch0 ↦{fullShare} f) : sProp 𝕄) = iprop(sPt c 0 f ∗ sPt c 1 f ∗ sPt c 2 f) := by
  have hd : ∀ b b' : Fin 3, b ≠ b' → Disjoint (sset b.val) (sset b'.val) := fun b b' hb =>
    Finset.disjoint_left.mpr fun i h h' => hb (Fin.ext ((mem_sset.mp h).symm.trans (mem_sset.mp h')))
  have hc : (Finset.univ.biUnion fun b : Fin 3 => sset b.val) = Finset.univ := by
    ext i
    refine ⟨fun _ => Finset.mem_univ _, fun _ => Finset.mem_biUnion.mpr ⟨⟨(i (0 : Fin 3)).val, (i (0 : Fin 3)).isLt⟩, Finset.mem_univ _, mem_sset.mpr rfl⟩⟩
  rw [Ring.pointsTo_blocks (ℓ := (c : Thread nD τ).loc cc0_scratch0) (fun b : Fin 3 => sset b.val) hd hc f,
    bigSep_univ_eq_bigSepL [0, 1, 2] (by decide) (by decide)]
  rfl

omit [FloatOps F] in
/-- The result buffer: the eight bands, in the order of their distance. -/
theorem o_split (c : Dev nD) (f) : (((c : Thread nD τ).loc cc0_stg1_0 ↦{fullShare} f) : sProp 𝕄)
    = iprop(oPt c fullShare (bn c 0 0) f ∗ oPt c fullShare (bn c 0 1) f ∗ oPt c fullShare (bn c 0 2) f ∗ oPt c fullShare (bn c 0 3) f
      ∗ oPt c fullShare (bn c 1 0) f ∗ oPt c fullShare (bn c 1 1) f ∗ oPt c fullShare (bn c 1 2) f ∗ oPt c fullShare (bn c 1 3) f) := by
  have hd : ∀ b b' : Fin 2 × Fin 4, b ≠ b' → Disjoint (bset (bn c b.1.val b.2.val)) (bset (bn c b'.1.val b'.2.val)) := fun b b' hb =>
    Finset.disjoint_left.mpr fun i h h' => hb (bn_inj c _ _ ((mem_bset.mp h).symm.trans (mem_bset.mp h')))
  have hc : (Finset.univ.biUnion fun b : Fin 2 × Fin 4 => bset (bn c b.1.val b.2.val)) = Finset.univ := by
    ext i
    refine ⟨fun _ => Finset.mem_univ _, fun _ => ?_⟩
    have h0 : (i (0 : Fin 2)).val < 2048 := (i (0 : Fin 2)).isLt
    obtain ⟨p, hp⟩ := bn_surj c ⟨(i (0 : Fin 2)).val / 256, by omega⟩
    exact Finset.mem_biUnion.mpr ⟨p, Finset.mem_univ _, mem_bset.mpr hp.symm⟩
  rw [Ring.pointsTo_blocks (ℓ := (c : Thread nD τ).loc cc0_stg1_0) (fun b : Fin 2 × Fin 4 => bset (bn c b.1.val b.2.val)) hd hc f,
    bigSep_univ_eq_bigSepL [(0, 0), (0, 1), (0, 2), (0, 3), (1, 0), (1, 1), (1, 2), (1, 3)] (by decide) (by decide)]
  rfl

/-! ## The credit -/

/-- What the devices' payments `l`, all made, bring to the cells of device `c`. -/
def T (l : List (Fin 27)) (c : Dev nD) : CellTallies nD τ sig Unit :=
  l.foldr (fun j O => O + tallyAt (kcell (c, kOf j)) () (amt j)) 0

theorem sum_owed (l : List (Fin 27)) : (∑ d, O l d) = ∑ d, T l d := by
  induction l with
  | nil => rfl
  | cons j l ih =>
    have h := Equiv.sum_comp (toE j) fun d => (tallyAt (kcell (d, kOf j)) () (amt j) : CellTallies nD τ sig Unit)
    show (∑ d, (O l d + tallyAt (kcell (dst j d, kOf j)) () (amt j))) = ∑ d, (T l d + tallyAt (kcell (d, kOf j)) () (amt j))
    rw [Finset.sum_add_distrib, Finset.sum_add_distrib, ih, ← h]
    rfl

theorem T_own (l : List (Fin 27)) (d : Dev nD) (g : GSem nD τ sig) (h : T l d g ≠ 0) : g.1 = (d.tc : Thread nD τ) := by
  induction l with
  | nil => exact absurd rfl h
  | cons j l ih =>
    by_cases hg : g = kcell (d, kOf j)
    · rw [hg]
    · refine ih fun h0 => h ?_
      show T l d g + (tallyAt (kcell (d, kOf j)) () (amt j) : CellTallies nD τ sig Unit) g = 0
      rw [h0, tallyAt_ne_cell hg, add_zero]

/-- What is on its way to cell `k` of device `c` at the launch. -/
def cr (c : Dev nD) (k : Fin 21) : sProp 𝕄 := cred (tallyAt (kcell (c, k)) () (need k))

omit [FloatOps F] in
theorem cred_cons (c : Dev nD) (j : Fin 27) (hj : 7 ≤ j.val) (l : List (Fin 27)) : (cred (T (j :: l) c) : sProp 𝕄) ⊢ iprop(cred (T l c) ∗ cr c (kOf j)) := by
  have e : T (j :: l) c = T l c + tallyAt (kcell (c, kOf j)) () (need (kOf j)) := by
    rw [need_ne (kOf_ne hj)]
    show T l c + tallyAt (kcell (c, kOf j)) () (amt j) = _
    rw [show amt j = N from if_neg (by omega)]
  rw [e]
  exact (cred_add _ _).1

omit [FloatOps F] in
theorem cred_bar (c : Dev nD) (l : List (Fin 27)) : (cred (T (0 :: 1 :: 2 :: 3 :: 4 :: 5 :: 6 :: l) c) : sProp 𝕄) ⊢ iprop(cred (T l c) ∗ cr c 0) := by
  have e : T (0 :: 1 :: 2 :: 3 :: 4 :: 5 :: 6 :: l) c = T l c + tallyAt (kcell (c, 0)) () 7 := by
    let t : CellTallies nD τ sig Unit := tallyAt (kcell (c, 0)) () 1
    show T l c + t + t + t + t + t + t + t = _
    rw [add_assoc (T l c + t + t + t + t + t), tallyAt_add, add_assoc, tallyAt_add, add_assoc, tallyAt_add, add_assoc, tallyAt_add,
      add_assoc, tallyAt_add, add_assoc, tallyAt_add]
  rw [e]
  exact (cred_add _ _).1

omit [FloatOps F] in
/-- The credit a device is launched with, cell by cell. -/
theorem creds (c : Dev nD) : (Pipeline.launchCred (O owedAll) c : sProp 𝕄)
    ⊢ iprop(cr c 0 ∗ cr c 4 ∗ cr c 5 ∗ cr c 6 ∗ cr c 10 ∗ cr c 11 ∗ cr c 12 ∗ cr c 17 ∗ cr c 18 ∗ cr c 19 ∗ cr c 20) := by
  rw [Pipeline.launchCred_of_sum (O owedAll) (T owedAll) (sum_owed owedAll) (T_own owedAll) c,
    show T owedAll c = T (0 :: 1 :: 2 :: 3 :: 4 :: 5 :: 6 :: left 7) c from rfl]
  iintro H
  ihave H := (cred_bar (F := F) c (left 7)) $$ H
  icases H with ⟨H, H0⟩
  ihave H := (show cred (T (left 7) c) ⊢ _ from cred_cons (F := F) c 12 (by decide) (left 8)) $$ H
  icases H with ⟨H, H6⟩
  ihave H := (show cred (T (left 8) c) ⊢ _ from cred_cons (F := F) c 11 (by decide) (left 9)) $$ H
  icases H with ⟨H, H5⟩
  ihave H := (show cred (T (left 9) c) ⊢ _ from cred_cons (F := F) c 10 (by decide) (left 10)) $$ H
  icases H with ⟨H, H4⟩
  ihave H := (show cred (T (left 10) c) ⊢ _ from cred_cons (F := F) c 18 (by decide) (left 11)) $$ H
  icases H with ⟨H, H12⟩
  ihave H := (show cred (T (left 11) c) ⊢ _ from cred_cons (F := F) c 17 (by decide) (left 12)) $$ H
  icases H with ⟨H, H11⟩
  ihave H := (show cred (T (left 12) c) ⊢ _ from cred_cons (F := F) c 16 (by decide) (left 13)) $$ H
  icases H with ⟨H, H10⟩
  ihave H := (show cred (T (left 13) c) ⊢ _ from cred_cons (F := F) c 23 (by decide) (left 14)) $$ H
  icases H with ⟨H, H17⟩
  ihave H := (show cred (T (left 14) c) ⊢ _ from cred_cons (F := F) c 24 (by decide) (left 15)) $$ H
  icases H with ⟨H, H18⟩
  ihave H := (show cred (T (left 15) c) ⊢ _ from cred_cons (F := F) c 25 (by decide) (left 16)) $$ H
  icases H with ⟨H, H19⟩
  ihave H := (show cred (T (left 16) c) ⊢ _ from cred_cons (F := F) c 26 (by decide) (left 17)) $$ H
  icases H with ⟨H, H20⟩
  isplitl [H0]; · iexact H0
  isplitl [H4]; · iexact H4
  isplitl [H5]; · iexact H5
  isplitl [H6]; · iexact H6
  isplitl [H10]; · iexact H10
  isplitl [H11]; · iexact H11
  isplitl [H12]; · iexact H12
  isplitl [H17]; · iexact H17
  isplitl [H18]; · iexact H18
  isplitl [H19]; · iexact H19
  iexact H20

/-! ## The start -/

/-- The rights to make device `c`'s payments; -/
def payToks (c : Dev nD) : sProp 𝕄 := bigSep Finset.univ fun j : Fin 27 => tok c j
/-- its cells, each at its round's start. -/
def cellsAt (c : Dev nD) : sProp 𝕄 := bigSep Finset.univ fun k : Fin 21 => atPos ER (kcell (c, k)) 0 ∅ 0

omit [FloatOps F] in
theorem payToks_eq (c : Dev nD) : (payToks c : sProp 𝕄) = iprop(tok c 0 ∗ tok c 1 ∗ tok c 2 ∗ tok c 3 ∗ tok c 4 ∗ tok c 5 ∗ tok c 6 ∗ tok c 7 ∗ tok c 8 ∗ tok c 9 ∗ tok c 10 ∗ tok c 11 ∗ tok c 12 ∗ tok c 13
    ∗ tok c 14 ∗ tok c 15 ∗ tok c 16 ∗ tok c 17 ∗ tok c 18 ∗ tok c 19 ∗ tok c 20 ∗ tok c 21 ∗ tok c 22 ∗ tok c 23 ∗ tok c 24 ∗ tok c 25 ∗ tok c 26) :=
  bigSep_univ_eq_bigSepL [0, 1, 2, 3, 4, 5, 6, 7, 8, 9, 10, 11, 12, 13, 14, 15, 16, 17, 18, 19, 20, 21, 22, 23, 24, 25, 26] (by decide) (by decide) _
omit [FloatOps F] in
theorem cellsAt_eq (c : Dev nD) : (cellsAt c : sProp 𝕄) = (fun Φ : Fin 21 → sProp 𝕄 => iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20)) (fun k => atPos ER (kcell (c, k)) 0 ∅ 0) :=
  bigSep_univ_eq_bigSepL [0, 1, 2, 3, 4, 5, 6, 7, 8, 9, 10, 11, 12, 13, 14, 15, 16, 17, 18, 19, 20] (by decide) (by decide) _

/-- What the launch deals, with the buffers whole, is what the body starts from. -/
theorem begun_intro (c : Dev nD) (fo fs) :
    iprop(cellsAt c ∗ payToks c ∗ (cr c 0 ∗ cr c 4 ∗ cr c 5 ∗ cr c 6 ∗ cr c 10 ∗ cr c 11 ∗ cr c 12 ∗ cr c 17 ∗ cr c 18 ∗ cr c 19 ∗ cr c 20)
        ∗ ((c : Thread nD τ).loc cc0_stg0_0 ↦{fullShare} xstg m c) ∗ ((c : Thread nD τ).loc cc0_stg1_0 ↦{fullShare} fo)
        ∗ ((c : Thread nD τ).loc cc0_scratch0 ↦{fullShare} fs) ∗ ow c owedAll) ⊢ begun m c := by
  rw [cellsAt_eq, payToks_eq, o_split, s_split]
  unfold begun sg kit waiting cr
  simp only []
  iintro ⟨⟨A0, A1, A2, A3, A4, A5, A6, A7, A8, A9, A10, A11, A12, A13, A14, A15, A16, A17, A18, A19, A20⟩, ⟨T0, T1, T2, T3, T4, T5, T6, T7, T8, T9, T10, T11, T12, T13, T14, T15, T16, T17, T18, T19, T20, T21, T22, T23, T24, T25, T26⟩, ⟨C0, C4, C5, C6, C10, C11, C12, C17, C18, C19, C20⟩, Hx, ⟨B00, B01, B02, B03, B10, B11, B12, B13⟩, ⟨G0, G1, G2⟩, Ho⟩
  ihave Hx := (x_split m c).1 $$ Hx
  icases Hx with ⟨X1, X2, X3, XR⟩
  isplitl [T0 G0]
  · isplitl [T0]; · iexact T0
    unfold give; rw [if_pos (by decide)]; iexists fs; iexact G0
  isplitl [T1 G1]
  · isplitl [T1]; · iexact T1
    unfold give; rw [if_pos (by decide)]; iexists fs; iexact G1
  isplitl [T2 G2]
  · isplitl [T2]; · iexact T2
    unfold give; rw [if_pos (by decide)]; iexists fs; iexact G2
  isplitl [T3 B01]
  · isplitl [T3]; · iexact T3
    unfold give; rw [if_neg (by decide), if_pos (by decide)]; iexists fo; iexact B01
  isplitl [T4 B02]
  · isplitl [T4]; · iexact T4
    unfold give; rw [if_neg (by decide), if_pos (by decide)]; iexists fo; iexact B02
  isplitl [T5 B03]
  · isplitl [T5]; · iexact T5
    unfold give; rw [if_neg (by decide), if_pos (by decide)]; iexists fo; iexact B03
  isplitl [T6 B10 B11 B12 B13]
  · isplitl [T6]; · iexact T6
    unfold give; rw [if_neg (by decide), if_neg (by decide)]
    isplitl [B10]; · iexists fo; iexact B10
    isplitl [B11]; · iexists fo; iexact B11
    isplitl [B12]; · iexists fo; iexact B12
    iexists fo; iexact B13
  isplitl [T7 T12 A1]
  · isplitl [T7]; · iexact T7
    isplitl [T12]; · iexact T12
    iexact A1
  isplitl [T8 T11 A2]
  · isplitl [T8]; · iexact T8
    isplitl [T11]; · iexact T11
    iexact A2
  isplitl [T9 T10 A3]
  · isplitl [T9]; · iexact T9
    isplitl [T10]; · iexact T10
    iexact A3
  isplitl [T13 T18 A7]
  · isplitl [T13]; · iexact T13
    isplitl [T18]; · iexact T18
    iexact A7
  isplitl [T14 T17 A8]
  · isplitl [T14]; · iexact T14
    isplitl [T17]; · iexact T17
    iexact A8
  isplitl [T15 T16 A9]
  · isplitl [T15]; · iexact T15
    isplitl [T16]; · iexact T16
    iexact A9
  isplitl [T19 T23 A13]
  · isplitl [T19]; · iexact T19
    isplitl [T23]; · iexact T23
    iexact A13
  isplitl [T20 T24 A14]
  · isplitl [T20]; · iexact T20
    isplitl [T24]; · iexact T24
    iexact A14
  isplitl [T21 T25 A15]
  · isplitl [T21]; · iexact T21
    isplitl [T25]; · iexact T25
    iexact A15
  isplitl [T22 T26 A16]
  · isplitl [T22]; · iexact T22
    isplitl [T26]; · iexact T26
    iexact A16
  isplitl [A0 C0]
  · isplitl [A0]; · iexact A0
    iexact C0
  isplitl [A4 C4]
  · isplitl [A4]; · iexact A4
    iexact C4
  isplitl [A5 C5]
  · isplitl [A5]; · iexact A5
    iexact C5
  isplitl [A6 C6]
  · isplitl [A6]; · iexact A6
    iexact C6
  isplitl [A10 C10]
  · isplitl [A10]; · iexact A10
    iexact C10
  isplitl [A11 C11]
  · isplitl [A11]; · iexact A11
    iexact C11
  isplitl [A12 C12]
  · isplitl [A12]; · iexact A12
    iexact C12
  isplitl [A17 C17]
  · isplitl [A17]; · iexact A17
    iexact C17
  isplitl [A18 C18]
  · isplitl [A18]; · iexact A18
    iexact C18
  isplitl [A19 C19]
  · isplitl [A19]; · iexact A19
    iexact C19
  isplitl [A20 C20]
  · isplitl [A20]; · iexact A20
    iexact C20
  isplitl [X1]; · iexact X1
  isplitl [X2]; · iexact X2
  isplitl [X3]; · iexact X3
  isplitl [XR]; · iexact XR
  isplitl [B00]; · iexists fo; iexact B00
  iexact Ho

/-! ## The end -/

omit [FloatOps F] in
theorem dones_eq (c : Dev nD) : (bigSep Finset.univ fun k : Fin 21 => (done c k : sProp 𝕄)) = iprop(done c 0 ∗ done c 1 ∗ done c 2 ∗ done c 3 ∗ done c 4 ∗ done c 5 ∗ done c 6 ∗ done c 7 ∗ done c 8 ∗ done c 9 ∗ done c 10
    ∗ done c 11 ∗ done c 12 ∗ done c 13 ∗ done c 14 ∗ done c 15 ∗ done c 16 ∗ done c 17 ∗ done c 18 ∗ done c 19 ∗ done c 20) :=
  bigSep_univ_eq_bigSepL [0, 1, 2, 3, 4, 5, 6, 7, 8, 9, 10, 11, 12, 13, 14, 15, 16, 17, 18, 19, 20] (by decide) (by decide) _

/-- What the body ends with is the buffers whole and every cell done with. -/
theorem ended_elim (c : Dev nD) : ended m c
    ⊢ iprop(((c : Thread nD τ).loc cc0_stg0_0 ↦{fullShare} xstg m c) ∗ ((c : Thread nD τ).loc cc0_stg1_0 ↦{fullShare} total m c)
        ∗ ((c : Thread nD τ).loc cc0_scratch0 ↦{fullShare} landed m c) ∗ (bigSep Finset.univ fun k : Fin 21 => done c k) ∗ ow c []) := by
  rw [o_split, s_split, dones_eq]
  unfold ended
  iintro ⟨P1, P2, P3, XR, SA, SB, SC, BD, P7, P8, P9, P13, P14, P15, P16, P17, P18, P19, P20, D0, D1, D2, D3, D4, D5, D6, D7, D8, D9, D10, D11, D12, D13, D14, D15, D16, D17, D18, D19, D20, Ho⟩
  isplitl [P1 P2 P3 XR]
  · iapply (x_split m c).2
    isplitl [P1]; · iexact P1
    isplitl [P2]; · iexact P2
    isplitl [P3]; · iexact P3
    iexact XR
  isplitl [BD P7 P8 P9 P13 P14 P15 P16 P17 P18 P19 P20]
  · isplitl [BD P7 P8 P9 P13]
    · iapply (band_shares c _ _).2
      isplitl [BD]; · iexact BD
      isplitl [P7]; · iexact P7
      isplitl [P8]; · iexact P8
      isplitl [P9]; · iexact P9
      iexact P13
    isplitl [P14]; · iexact P14
    isplitl [P15]; · iexact P15
    isplitl [P16]; · iexact P16
    isplitl [P17]; · iexact P17
    isplitl [P18]; · iexact P18
    isplitl [P19]; · iexact P19
    iexact P20
  isplitl [SA SB SC]
  · isplitl [SA]; · iexact SA
    isplitl [SB]; · iexact SB
    iexact SC
  isplitr [Ho]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [D15]; · iexact D15
    isplitl [D16]; · iexact D16
    isplitl [D17]; · iexact D17
    isplitl [D18]; · iexact D18
    isplitl [D19]; · iexact D19
    iexact D20
  iexact Ho

end Cert.RS
-- ==== Proof.Launch.lean ====
/-
# The launch

The proof data of the launch, the body's obligation, the ghost state dealt to the devices, and the run of the program:
it ends, every device's result buffer at `total`, its argument as it was and every semaphore at zero.
-/
module

public import proofs.«01_k».proof.Proof.Whole
public import proofs.«01_k».proof.Proof.Gen.KernelIdeal.Launch
public import Idealize.ShloMosaic.Lib.Pipeline.Kit
public import Idealize.ShloMosaic.Lib.Pipeline.CollectiveSegs
public import Idealize.ShloMosaic.Lib.Tactic

@[expose] public section

set_option maxRecDepth 16384

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state the run starts from: any memory, all semaphores at zero. -/
def s₀ : MemSt nD τ sig (Elt F) := ⟨m, fun _ => 0, ρ⟩

/-! ## The proof data -/

/-- What a device holds before the body, its buffers aside; -/
def start (c : Dev nD) : sProp 𝕄 :=
  iprop((∃ K, records m K ∗ cellsAt c ∗ payToks c) ∗ Pipeline.launchCred (O owedAll) c ∗ levAts L lv)
/-- with the scratch buffer; -/
def Φ₀ (c : Dev nD) : sProp 𝕄 := iprop(start m c ∗ ∃ f, ((c : Thread nD τ).loc cc0_scratch0) ↦{fullShare} f)
/-- and after it. -/
def Φ₁ (c : Dev nD) : sProp 𝕄 :=
  iprop((((c : Thread nD τ).loc cc0_scratch0) ↦{fullShare} landed m c) ∗ bigSep Finset.univ fun k : Fin 21 => done c k)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => total m c
  Φ t := match t with
    | ⟨0, _⟩ => Φ₀ m c
    | ⟨_ + 1, _⟩ => Φ₁ m c
  q _ := fullShare
  owed t := match t with
    | ⟨0, _⟩ => O owedAll c
    | ⟨_ + 1, _⟩ => 0

theorem fetch_x (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () (t0_0 : Fin cfg0.N).succ ∗ stg c cc0_stg0_0 (xstg m c) ∗ stg c cc0_stg1_0 (total m c))

/-- The body, from what the launch holds for it to what the launch wants back. -/
theorem sound_body (c : Dev nD) :
    bodyPre m ρ c ⊢ wpc c (cc0_body xM (Memref.isWhole_whole _) oM (Memref.isWhole_whole _) rM (Memref.isWhole_whole _) cc0_scratch1 cc0_scratch2 cc0_scratch3
      cc0_scratch4 cc0_scratch5 cc0_scratch6) (fun _ => bodyPost m ρ c) := by
  unfold bodyPre Φ₀ start
  iintro ⟨⟨⟨⟨%K, #HR, Hat, Htok⟩, Hcr, #Hlev⟩, ⟨%fs, Hs⟩⟩, Ho, ⟨%d0, %g0, %hg0, Hx⟩, ⟨%d1, %g1, %hg1, Hout⟩⟩
  have hx : g0 = xstg m c := by rw [hg0]; unfold Dat.before; rw [if_pos (fetch_x t0_0)]; rfl
  subst hx
  unfold Dat.owesAt Pipeline.owesWithin
  icases Ho with ⟨%W, %hW, HO⟩
  rw [show (dats m ρ 0 c).owed (t0_0 : Fin cfg0.N).castSucc = O owedAll c from rfl]
  ihave Hcr := (creds (F := F) c) $$ Hcr
  iapply (body_run m K c)
  isplitr
  · unfold ctx; isplitr; · iexact HR
    iexact Hlev
  isplitl [Hat Htok Hcr Hx Hout Hs HO]
  · iapply (begun_intro m c g1 fs)
    isplitl [Hat]; · iexact Hat
    isplitl [Htok]; · iexact Htok
    isplitl [Hcr]; · iexact Hcr
    isplitl [Hx]; · iexact Hx
    isplitl [Hout]; · iexact Hout
    isplitl [Hs]; · iexact Hs
    unfold ow; iexists W; iexact HO
  iintro He
  ihave He := (ended_elim m c) $$ He
  icases He with ⟨Hx, Hout, Hs, Hd, Ho⟩
  unfold bodyPost Φ₁ Dat.owesAt Pipeline.owesWithin ow
  icases Ho with ⟨%W', HO⟩
  rw [show (dats m ρ 0 c).owed (t0_0 : Fin cfg0.N).succ = 0 from rfl]
  isplitl [Hs Hd]
  · isplitl [Hs]; · iexact Hs
    iexact Hd
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem body_obligation (c : Dev nD) : BodyObligation (dats (F := F) m ρ 0 c) (defs₀ (F := F)) 𝒱₀ () Set.univ := fun t => by
  rw [show t = (t0_0 : Fin cfg0.N) from fin_N0 t]
  rw [show (bigSep Finset.univ : (Fin cfg0.W → sProp 𝕄) → sProp 𝕄) = fun Φ => iprop(Φ (0 : Fin 2) ∗ Φ (1 : Fin 2)) from funext bigSep_W0]
  simp only [owns_whole_eq]
  exact sound_body m ρ c

/-! ## The ghost state -/

theorem ownSemFacts : Pipeline.OwnSemFacts cfg0.spec osem := by decide
theorem share_eq (c : Dev nD) (w : Fin cfg0.W) : (dats m ρ 0 c).share w = fullShare := by unfold Dat.share; split <;> rfl

/-- All devices' cells; -/
def allCells : Finset (GSem nD τ sig) := Finset.univ.map ⟨kcell, kcell_injective⟩
/-- the duty of payment `j` on the cells of device `c`; -/
abbrev tokOf (cj : Dev nD × Fin 27) : GSem nD τ sig × ℕ × Fin 7 := (kcell (cj.1, kOf cj.2), 0, dOf cj.2)
theorem tokOf_injective : Function.Injective (tokOf : Dev nD × Fin 27 → GSem nD τ sig × ℕ × Fin 7) := by
  rintro ⟨c, j⟩ ⟨c', j'⟩ h
  have h1 := kcell_injective (congrArg Prod.fst h)
  have h2 : dOf j = dOf j' := congrArg (fun x : GSem nD τ sig × ℕ × Fin 7 => x.2.2) h
  obtain rfl : c = c' := congrArg Prod.fst h1
  rw [tok_injective j j' (congrArg Prod.snd h1) h2]
/-- and all duties. -/
def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The rights to pay device `c`'s own cells. -/
def ownToks (c : Dev nD) : sProp 𝕄 := bigSep Finset.univ fun j : Fin 27 => dutyTok ER (kcell (c, kOf j)) 0 (dOf j)

/-- What the launch element deals device `c`; -/
def G (c : Dev nD) : sProp 𝕄 :=
  iprop((bigSep Finset.univ fun k : Fin 21 => roundState ER (Rd m) (kcell (c, k)) 0)
    ∗ (bigSep Finset.univ fun k : Fin 21 => iprop(atPos ER (kcell (c, k)) 0 ∅ 0 ∗ reached ER (kcell (c, k)) 0)) ∗ ownToks c)
/-- and what the devices make of it together. -/
def G' (c : Dev nD) : sProp 𝕄 := iprop(∃ K, records m K ∗ cellsAt c ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 21 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem bigSep_fin21 (Φ : Fin 21 → sProp 𝕄) : bigSep Finset.univ Φ = iprop(Φ 0 ∗ bigSep Finset.univ fun k : Fin 20 => Φ k.succ) := by
  have e : (bigSep Finset.univ fun k : Fin 20 => Φ k.succ : sProp 𝕄)
      = bigSepL [1, 2, 3, 4, 5, 6, 7, 8, 9, 10, 11, 12, 13, 14, 15, 16, 17, 18, 19, 20] Φ :=
    bigSep_univ_eq_bigSepL [0, 1, 2, 3, 4, 5, 6, 7, 8, 9, 10, 11, 12, 13, 14, 15, 16, 17, 18, 19] (by decide) (by decide) _
  rw [e]
  exact bigSep_univ_eq_bigSepL [0, 1, 2, 3, 4, 5, 6, 7, 8, 9, 10, 11, 12, 13, 14, 15, 16, 17, 18, 19, 20] (by decide) (by decide) Φ

omit [FloatOps F] in
/-- The kernel's own semaphores and the launch's unscoped one are the 21 cells' counters. -/
theorem sems0_eq (c : Dev nD) :
    (bigSep Finset.univ fun k : Fin 21 => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_fin21]
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 21 => semVal (kcell (c, k)) 0) ∗ bigSep Finset.univ fun k : Fin 21 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The rights to pay, from the devices whose cells they pay to the devices that pay them. -/
theorem toks_around : (bigSep Finset.univ fun c : Dev nD => (ownToks c : sProp 𝕄)) = bigSep Finset.univ fun c : Dev nD => payToks c := by
  unfold ownToks payToks
  rw [bigSep_univ_comm, bigSep_univ_comm fun (c : Dev nD) (j : Fin 27) => (tok c j : sProp 𝕄)]
  exact bigSep_congr fun j _ => bigSep_univ_equiv (toE j) fun c : Dev nD => (dutyTok ER (kcell (c, kOf j)) 0 (dOf j) : sProp 𝕄)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Fin 21 => iprop(∃ κ : ℕ, cellInv ER (Rd m) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄)), toks_around]
  iintro ⟨HI, ⟨Hat, #HR⟩, Htok⟩
  ihave HK := (BI.bigSep_exists_pi Finset.univ (fun (ck : Dev nD × Fin 21) (κ : ℕ) => (cellInv ER (Rd m) κ (kcell ck) : sProp 𝕄))) $$ HI
  icases HK with ⟨%K, #HI⟩
  iapply (with_persistent (R := records m K) (Φ := fun c : Dev nD => iprop(cellsAt c ∗ payToks c)) fun c _ =>
    show iprop(records m K ∗ cellsAt c ∗ payToks c) ⊢ G' m c from by unfold G'; iintro H; iexists K; iexact H)
  isplitr
  · unfold records; isplitl; · iexact HI
    iexact HR
  · rw [bigSep_sep']
    isplitl [Hat]; · unfold cellsAt; iexact Hat
    iexact Htok

/-- The step all devices take together before the run: the cells become shared. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions -/

theorem start_intro (c : Dev nD) :
    iprop(Pipeline.unscopedRestP Pipeline.Prefetch.none cfg0.spec c (fun b => m ((c : Thread nD τ).loc b)) ∗ levAts L lv
        ∗ Pipeline.launchCred (O owedAll) c ∗ prngReg c (ρ c) ∗ G' m c)
      ⊢ |={Set.univ}=> iprop(start m c ∗ emp) := by
  iintro ⟨-, Hlev, Hcr, -, HG⟩
  imodintro
  unfold start G'
  isplitl
  · isplitl [HG]; · iexact HG
    isplitl [Hcr]; · iexact Hcr
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁ done
  iintro ⟨Hr, Hz⟩
  ihave Hz := (Entails.of_eq (sems0_eq (F := F) c)) $$ Hz
  icases Hz with ⟨Hu, Ho⟩
  isplitl [Hu]; · iexact Hu
  isplitl [Ho]; · iexact Ho
  iexists (landed m c); iexact Hr

theorem waits (c : Dev nD) : (levAts L lv : sProp 𝕄) ⊢ Pipeline.cellsWaits cfgs (dats m ρ) () 0 c :=
  Pipeline.cellsWaits_intro cfgs (dats m ρ) () 0 c fun w s t => by
    have h : ∃ l, (dats m ρ 0 c).owed t = O l c ∧ ∀ j ∈ l, 0 < lvS (csem (kOf j)) := by
      rcases t with ⟨_ | _, ht⟩
      · exact ⟨owedAll, rfl, by decide⟩
      · exact ⟨[], rfl, by decide⟩
    obtain ⟨l, hO, hl⟩ := h
    rw [hO]
    refine mayWait c _ l fun j hj => ?_
    have : ∀ (w : Fin cfg0.W) (s : Fin (cfg0.win w).nbuf), lvS (.dma ((cfg0.win w).sem s)) = 0 := by decide
    rw [this]; exact hl j hj

/-! ## The run -/

/-- The contents of device `c`'s array of window `w` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values and from any memory with all semaphores at zero, every weakly fair execution of the program on
    the 32 devices ends, with every device's arrays at their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O owedAll) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.RS
-- ==== Proof.Value.lean ====
/-
# The values

The result buffer holds `total` at the end of the run, and at the extended reals `total` is the device's block of
the sum over the first axis.
-/
module

public import proofs.«01_k».proof.Defs
public import proofs.«01_k».proof.Proof.Launch
public import proofs.«01_k».proof.Proof.Gen.KernelIdeal.Points
public import proofs.«01_k».proof.Proof.Gen.ReferenceIdeal.Run
public import Idealize.ShloMosaic.Lib.Pipeline.Value
public import Idealize.ShloMosaic.Lib.Pointwise.Reduce
public import Idealize.ShloMosaic.PureOps.Ideal.Laws

@[expose] public section

set_option maxRecDepth 16384

noncomputable section

namespace Cert.RS

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

theorem off_zero3 : (fun a : Fin 3 => win0_0.index (0 : Fin 1) a * win0_0.size a) = fun _ => 0 := by decide +kernel
theorem off_zero2 : (fun a : Fin 2 => win0_1.index (0 : Fin 1) a * win0_1.size a) = fun _ => 0 := by decide +kernel

/-- The staged argument is the argument. -/
theorem xstg_apply (c : Dev nD) (i : S1x2048x2048.Idx) : xstg m c i = m ((c : Thread nD τ).loc main_arg0) i := by
  refine congrArg (m ((c : Thread nD τ).loc main_arg0)) (funext fun a => Fin.ext ?_)
  show win0_0.index (0 : Fin 1) a * win0_0.size a + 1 * (i a).val = (i a).val
  have := congrFun off_zero3 a
  simp only [] at this
  rw [this]; omega

/-- The one block written back is all of the result. -/
theorem out_cover (i : S2048x512.Idx) : ∃ t : Fin cfg0.N, (cfg0.win 1).flush t = true ∧ i ∈ ((cfg0.win 1).blk t).view.set := by
  refine ⟨t0_0, flush0_1 _, ?_⟩
  show i ∈ ((View.whole main_v1).slice (win0_1.rect (0 : Fin 1))).set
  rw [View.set_slice_whole, Rect.mem_set_unit]
  intro a
  have h0 := congrFun off_zero2 a
  have h1 : ∀ a, win0_1.xsize (grid0.coords (0 : Fin 1)) a = S2048x512.size a := by decide +kernel
  refine ⟨Nat.le_trans (Nat.le_of_eq h0) (Nat.zero_le _), ?_⟩
  show (i a).val < win0_1.index (0 : Fin 1) a * win0_1.size a + win0_1.xsize (grid0.coords (0 : Fin 1)) a
  rw [h1 a]; exact Nat.lt_of_lt_of_le (i a).isLt (Nat.le_add_left _ _)

/-- The result after the run. -/
theorem finalA_out (c : Dev nD) : finalA m ρ c (1 : Fin 2) = total m c :=
  (dats m ρ 0 c).arrAt_eq_of_cover (1 : Fin 2) (total m c) (fun t _ => by
    obtain rfl := fin_N0 t
    unfold Pipeline.Dat.flushed
    have ha : (dats m ρ 0 c).after (1 : Fin 2) t0_0 = total m c := rfl
    rw [ha]
    funext i
    refine congrArg (total m c) (funext fun a => Fin.ext ?_)
    show (i a).val = win0_1.index (0 : Fin 1) a * win0_1.size a + 1 * (i a).val
    rw [show win0_1.index (0 : Fin 1) a * win0_1.size a = 0 from congrFun off_zero2 a]; omega) out_cover

/-! ## At the extended reals -/

section Ideal

variable (mi : (ℓ : Loc nD τ sig) → Buf (Elt Ideal) ℓ) (X : (⟨3, ![4, 2048, 2048]⟩ : Shape).Idx → EReal)

/-- The whole argument at row `r` and column `j` of its slice `b`. -/
def at3 (b r j : ℕ) : EReal :=
  X (Idealize.ShloMosaic.ix3 (n0 := 4) (n1 := 2048) (n2 := 2048) ⟨b % 4, Nat.mod_lt _ (by decide)⟩ ⟨r % 2048, Nat.mod_lt _ (by decide)⟩
    ⟨j % 2048, Nat.mod_lt _ (by decide)⟩)

/-- A device's argument holds the slice of the whole one that its second mesh coordinate names. -/
theorem xel_ideal (h : ∀ c : Dev nD, mi ((c : Thread nD τ).loc main_arg0)
      = Layout.blockN ⟨3, ![1, 2048, 2048]⟩ ⟨3, ![4, 2048, 2048]⟩ (Layout.meshBlock [2, 4, 4] ![[1], [], []] c) X)
    (d : Dev nD) (r j : ℕ) : xel mi d r j = at3 X (d.val / 4) r j := by
  unfold xel; rw [xstg_apply, h d]
  refine congrArg X (funext fun a => Fin.ext ?_)
  rw [Layout.TilesN.idx_val]
  match a with
  | ⟨0, _⟩ => show (d.val / 4 % 4 * 1 + 0) * 1 + 0 = d.val / 4 % 4; omega
  | ⟨1, _⟩ => show 0 * 2048 + r % 2048 = r % 2048; omega
  | ⟨2, _⟩ => show 0 * 2048 + j % 2048 = j % 2048; omega

/-- Four terms taken in turn from any of them on add up to the sum of the four. -/
theorem sum_turned (f : ℕ → EReal) (hf : ∀ n, f (n % 4) = f n) (y : ℕ) :
    f y + f (y + 1) + f (y + 2) + f (y + 3) = ∑ k : Fin 4, f k.val := by
  rw [Fin.sum_univ_four]
  show _ = f 0 + f 1 + f 2 + f 3
  rw [← hf y, ← hf (y + 1), ← hf (y + 2), ← hf (y + 3)]
  have hy : y % 4 = 0 ∨ y % 4 = 1 ∨ y % 4 = 2 ∨ y % 4 = 3 := by omega
  rcases hy with h | h | h | h
  · rw [show (y + 1) % 4 = 1 by omega, show (y + 2) % 4 = 2 by omega, show (y + 3) % 4 = 3 by omega, h]
  · rw [show (y + 1) % 4 = 2 by omega, show (y + 2) % 4 = 3 by omega, show (y + 3) % 4 = 0 by omega, h]; ac_rfl
  · rw [show (y + 1) % 4 = 3 by omega, show (y + 2) % 4 = 0 by omega, show (y + 3) % 4 = 1 by omega, h]; ac_rfl
  · rw [show (y + 1) % 4 = 0 by omega, show (y + 2) % 4 = 1 by omega, show (y + 3) % 4 = 2 by omega, h]; ac_rfl

/-- The sum of the whole argument over its first axis, as the reference computes it. -/
abbrev refSum : (⟨2, ![2048, 2048]⟩ : Shape).Idx → EReal :=
  Host.reduceAdd (F := Ideal) (φ := .f32) X (constant (F := Ideal) Cert.ReferenceIdeal.S_ .f32 0x00000000#32)
    Cert.ReferenceIdeal.Gen.reducesTo_S4x2048x2048_S2048x2048_d0 Cert.ReferenceIdeal.Gen.h_S_

theorem refSum_apply (i : (⟨2, ![2048, 2048]⟩ : Shape).Idx) :
    refSum X i = ∑ k : Fin 4, at3 X k.val (i (0 : Fin 2)).val (i (1 : Fin 2)).val := by
  unfold refSum
  rw [Host.reduceAdd_apply, Ideal.hostReduceAdd_def, Ideal.hostReduceAdd_r3_a0]
  have h0 : (constant (F := Ideal) Cert.ReferenceIdeal.S_ .f32 0x00000000#32 : Cert.ReferenceIdeal.S_.Idx → EReal)
      (Shape.Idx.first Cert.ReferenceIdeal.Gen.h_S_) = 0 := Ideal.ofBits_zero_f32
  refine (congrArg (· + _) h0).trans ((zero_add _).trans (Finset.sum_congr rfl fun k _ => ?_))
  refine congrArg X (funext fun a => Fin.ext ?_)
  have l0 : (i (0 : Fin 2)).val < 2048 := (i (0 : Fin 2)).isLt
  have l1 : (i (1 : Fin 2)).val < 2048 := (i (1 : Fin 2)).isLt
  match a with
  | ⟨0, _⟩ => exact (Nat.mod_eq_of_lt k.isLt).symm
  | ⟨1, _⟩ => exact (Nat.mod_eq_of_lt l0).symm
  | ⟨2, _⟩ => exact (Nat.mod_eq_of_lt l1).symm

/-- What a device ends with is its block of columns of that sum. -/
theorem total_ideal (h : ∀ c : Dev nD, mi ((c : Thread nD τ).loc main_arg0)
      = Layout.blockN ⟨3, ![1, 2048, 2048]⟩ ⟨3, ![4, 2048, 2048]⟩ (Layout.meshBlock [2, 4, 4] ![[1], [], []] c) X) (c : Dev nD) :
    total mi c = Layout.blockN ⟨2, ![2048, 512]⟩ ⟨2, ![2048, 2048]⟩ (Layout.meshBlock [2, 4, 4] ![[], [1]] c) (refSum X) := by
  funext i
  rw [Layout.blockN_apply, refSum_apply]
  have l0 : (i (0 : Fin 2)).val < 2048 := (i (0 : Fin 2)).isLt
  have hc := c.isLt
  have hm : ∀ b r j : ℕ, at3 X (b % 4) r j = at3 X b r j := fun b r j => by unfold at3; simp only [Nat.mod_mod]
  have hr : ∀ (r k : ℕ), (rowDev c r k).val / 4 % 4 = (c.val / 4 + k) % 4 := fun r k => by
    show (16 * (r / 1024 % 2) + 4 * ((c.val / 4 + k) % 4) + r / 256 % 4) / 4 % 4 = _; omega
  have hx : ∀ (r j k : ℕ), xel mi (rowDev c r k) r j = at3 X (c.val / 4 + k) r j := fun r j k => by
    rw [xel_ideal mi X h, ← hm, hr, hm]
  show xel mi _ _ _ + xel mi _ _ _ + xel mi _ _ _ + xel mi _ _ _ = _
  rw [hx, hx, hx, hx]
  refine (sum_turned (fun b => at3 X b (i (0 : Fin 2)).val (512 * cl c 0 + (i (1 : Fin 2)).val)) (fun n => hm n _ _) (c.val / 4)).trans ?_
  refine Finset.sum_congr rfl fun k _ => congrArg₂ (at3 X k.val) ?_ ?_
  · rw [Layout.TilesN.idx_val]
    show _ = 0 * 2048 + (i (0 : Fin 2)).val
    omega
  · rw [Layout.TilesN.idx_val]
    show _ = (c.val / 4 % 4 * 1 + 0) * 512 + (i (1 : Fin 2)).val
    unfold cl; omega

end Ideal

end Cert.RS
-- ==== Proof.Same.lean ====
/-
# The two kernel programs

No operation is replaced, so the kernel and its idealization are one text; here their body tables are shown equal, and
what is proved of one run then holds of the other.
-/
module

public import proofs.«01_k».proof.Proof.Launch
public import proofs.«01_k».proof.Proof.Gen.Kernel

@[expose] public section

set_option maxRecDepth 16384

namespace Cert.RS

open Idealize.ShloMosaic

variable {F : FTy → Type} [FloatOps F]

/-- The two programs run the same body. -/
theorem bodies_same : Cert.Kernel.defs₀ (F := F) = Cert.KernelIdeal.defs₀ (F := F) :=
  congrArg Defs.onTc (funext fun l => funext fun a => by
    match l, a with
    | ⟨0, _⟩, (t, s) => rfl
    | ⟨_ + 1, h⟩, _ => exact absurd h (Nat.not_lt.2 (Nat.le_add_left _ _)))

/-- So their tables, with the launches, are the same. -/
theorem defs_same : Cert.Kernel.defs (F := F) = Cert.KernelIdeal.defs (F := F) := by
  unfold Cert.Kernel.defs Cert.KernelIdeal.defs
  rw [bodies_same]
  rfl

end Cert.RS
-- ==== Proof.lean ====
/-
# The certificate

The two kernel programs, the reference and the equation between them, put together from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.KernelIdeal

/-- The kernel on bits runs, its argument ends as it was, and every semaphore is back at zero. -/
theorem frame_kernel : Cert.quiescent_Kernel := fun m ρ _ => by
  rw [Cert.RS.defs_same]
  exact (θ_run (Cert.KernelIdeal.defs (F := Bits)) _ _).mono
    (fun _ h => ⟨fun c => (h.1 c (0 : Fin 2)).trans (Cert.RS.finalA_x (F := Bits) m ρ c), h.2⟩) (Cert.RS.run_main (F := Bits) m ρ)

/-- The same of the kernel on extended reals. -/
theorem frame_kernel_ideal : Cert.quiescent_KernelIdeal := fun m ρ _ =>
  (θ_run Cert.KernelIdeal.defs _ _).mono (fun _ h => ⟨fun c => (h.1 c (0 : Fin 2)).trans (Cert.RS.finalA_x (F := Ideal) m ρ c), h.2⟩)
    (Cert.RS.run_main (F := Ideal) m ρ)

/-- The reference runs, its argument ends as it was; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its block of columns of the reference's result, and the arguments of both end as they were. -/
theorem value : Cert.algebraic_KernelIdeal_ReferenceIdeal := fun m ρ m' ρ' _ hin =>
  ⟨Cert.RS.refSum (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
      ⟨(h.1 c (1 : Fin 2)).trans ((Cert.RS.finalA_out m ρ c).trans (Cert.RS.total_ideal m _ hin c)),
        (h.1 c (0 : Fin 2)).trans (Cert.RS.finalA_x m ρ c)⟩)
      (Cert.RS.run_main (F := Ideal) m ρ),
    (θ_run Cert.ReferenceIdeal.defs _ _).mono (fun _ h => h 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_kernel_ideal, frame_reference, trivial, value⟩

end Cert.Proof

end
